-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v25_0) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x4096x3584 : Shape := ⟨3, ![4, 4096, 3584]⟩
abbrev S3584x3584 : Shape := ⟨2, ![3584, 3584]⟩
abbrev S28x128x28x128 : Shape := ⟨4, ![28, 128, 28, 128]⟩
abbrev S_ : Shape := ⟨0, ![]⟩
abbrev S28x28 : Shape := ⟨2, ![28, 28]⟩

class Facts : Prop where
  shapeCasts_S3584x3584_S28x128x28x128 : S3584x3584.ShapeCasts S28x128x28x128
  reducesTo_S28x128x28x128_S28x28_d1_3 : S28x128x28x128.ReducesTo [1, 3] S28x28
  h_S_ : 0 < S_.numel
  bcast_S_S28x28 : S_.BroadcastsInDim S28x28 (![] : Fin 0 → Fin S28x28.rank)

variable [Facts]

def fn {F : FTy → Type} [FloatOps F] (main_arg0 : FVec F S4x4096x3584 .bf16) (main_arg1 : FVec F S3584x3584 .f32) (main_arg2 : FVec F S4x4096x3584 .bf16) : IVec S28x28 1 :=
  let main_v0 : FVec F S28x128x28x128 .f32 := shapeCast S28x128x28x128 main_arg1 shapeCasts_S3584x3584_S28x128x28x128
  let main_v1 : FVec F S28x128x28x128 .f32 := Host.absf main_v0
  let main_cst : FVec F S_ .f32 := constant S_ .f32 0xFF800000#32
  let main_v2 : FVec F S28x28 .f32 := (fun x v => Host.reduce FloatOps.maximumf x v reducesTo_S28x128x28x128_S28x28_d1_3 h_S_) main_v1 main_cst
  let main_cst_0 : FVec F S_ .f32 := constant S_ .f32 0x3B124925#32
  let main_v3 : FVec F S28x28 .f32 := broadcastInDim S28x28 ![] bcast_S_S28x28 main_cst_0
  let main_v4 : FVec F S28x28 .f32 := mulf main_v2 main_v3
  let main_cst_1 : FVec F S_ .f32 := constant S_ .f32 0x7F7FFFFF#32
  let main_v5 : FVec F S28x28 .f32 := broadcastInDim S28x28 ![] bcast_S_S28x28 main_cst_1
  let main_v6 : IVec S28x28 1 := cmpf .ole main_v2 main_v5
  let main_cst_2 : FVec F S_ .f32 := constant S_ .f32 0x00000000#32
  let main_v7 : FVec F S28x28 .f32 := broadcastInDim S28x28 ![] bcast_S_S28x28 main_cst_2
  let main_v8 : IVec S28x28 1 := cmpf .oeq main_v2 main_v7
  let main_cst_3 : FVec F S_ .f32 := constant S_ .f32 0x00800000#32
  let main_v9 : FVec F S28x28 .f32 := broadcastInDim S28x28 ![] bcast_S_S28x28 main_cst_3
  let main_v10 : IVec S28x28 1 := cmpf .oge main_v4 main_v9
  let main_v11 : IVec S28x28 1 := ori main_v8 main_v10
  let main_v12 : IVec S28x28 1 := andi main_v6 main_v11
  main_v12
-- ==== Kernel.lean ====
abbrev S4x4096x3584 : Shape := ⟨3, ![4, 4096, 3584]⟩
abbrev S3584x3584 : Shape := ⟨2, ![3584, 3584]⟩
abbrev S16384x3584 : Shape := ⟨2, ![16384, 3584]⟩
abbrev S28x1x3584 : Shape := ⟨3, ![28, 1, 3584]⟩
abbrev S2048x896 : Shape := ⟨2, ![2048, 896]⟩
abbrev S2048x1792 : Shape := ⟨2, ![2048, 1792]⟩
abbrev S128x1792 : Shape := ⟨2, ![128, 1792]⟩
abbrev S896x1792 : Shape := ⟨2, ![896, 1792]⟩
abbrev S1x1x1792 : Shape := ⟨3, ![1, 1, 1792]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S1x1x128 : Shape := ⟨3, ![1, 1, 128]⟩
abbrev S1024x3584 : Shape := ⟨2, ![1024, 3584]⟩
abbrev S3584x1792 : Shape := ⟨2, ![3584, 1792]⟩
abbrev S1024x1792 : Shape := ⟨2, ![1024, 1792]⟩
abbrev S1792x3584 : Shape := ⟨2, ![1792, 3584]⟩
abbrev S28x1x28 : Shape := ⟨3, ![28, 1, 28]⟩
abbrev S28x28 : Shape := ⟨2, ![28, 28]⟩

abbrev nBuf : Space → Nat
  | .hbm => 15
  | .vmem => 26
  | .smem => 0
  | _ => 0

abbrev bufTy : (tb : Table) → Fin (tcTables nBuf tb) → BufTy
  | .hbm, ⟨0, _⟩ => ⟨S4x4096x3584, .bf16⟩
  | .hbm, ⟨1, _⟩ => ⟨S3584x3584, .f32⟩
  | .hbm, ⟨2, _⟩ => ⟨S4x4096x3584, .bf16⟩
  | .hbm, ⟨3, _⟩ => ⟨S16384x3584, .bf16⟩
  | .hbm, ⟨4, _⟩ => ⟨S16384x3584, .bf16⟩
  | .hbm, ⟨5, _⟩ => ⟨S3584x3584, .f32⟩
  | .hbm, ⟨6, _⟩ => ⟨S3584x3584, .fp8e4m3⟩
  | .hbm, ⟨7, _⟩ => ⟨S28x1x3584, .f32⟩
  | .hbm, ⟨8, _⟩ => ⟨S3584x3584, .bf16⟩
  | .hbm, ⟨9, _⟩ => ⟨S16384x3584, .bf16⟩
  | .hbm, ⟨10, _⟩ => ⟨S4x4096x3584, .bf16⟩
  | .hbm, ⟨11, _⟩ => ⟨S16384x3584, .bf16⟩
  | .hbm, ⟨12, _⟩ => ⟨S4x4096x3584, .bf16⟩
  | .hbm, ⟨13, _⟩ => ⟨S28x1x28, .f32⟩
  | .hbm, ⟨14, _⟩ => ⟨S28x28, .f32⟩
  | .local _ .vmem, ⟨0, _⟩ => ⟨S2048x896, .bf16⟩
  | .local _ .vmem, ⟨1, _⟩ => ⟨S2048x896, .bf16⟩
  | .local _ .vmem, ⟨2, _⟩ => ⟨S2048x1792, .bf16⟩
  | .local _ .vmem, ⟨3, _⟩ => ⟨S2048x1792, .bf16⟩
  | .local _ .vmem, ⟨4, _⟩ => ⟨S128x1792, .f32⟩
  | .local _ .vmem, ⟨5, _⟩ => ⟨S128x1792, .f32⟩
  | .local _ .vmem, ⟨6, _⟩ => ⟨S896x1792, .f32⟩
  | .local _ .vmem, ⟨7, _⟩ => ⟨S896x1792, .f32⟩
  | .local _ .vmem, ⟨8, _⟩ => ⟨S128x1792, .fp8e4m3⟩
  | .local _ .vmem, ⟨9, _⟩ => ⟨S128x1792, .fp8e4m3⟩
  | .local _ .vmem, ⟨10, _⟩ => ⟨S1x1x1792, .f32⟩
  | .local _ .vmem, ⟨11, _⟩ => ⟨S1x1x1792, .f32⟩
  | .local _ .vmem, ⟨12, _⟩ => ⟨S128x1792, .bf16⟩
  | .local _ .vmem, ⟨13, _⟩ => ⟨S128x1792, .bf16⟩
  | .local _ .vmem, ⟨14, _⟩ => ⟨S1024x3584, .bf16⟩
  | .local _ .vmem, ⟨15, _⟩ => ⟨S1024x3584, .bf16⟩
  | .local _ .vmem, ⟨16, _⟩ => ⟨S3584x1792, .bf16⟩
  | .local _ .vmem, ⟨17, _⟩ => ⟨S3584x1792, .bf16⟩
  | .local _ .vmem, ⟨18, _⟩ => ⟨S1024x1792, .bf16⟩
  | .local _ .vmem, ⟨19, _⟩ => ⟨S1024x1792, .bf16⟩
  | .local _ .vmem, ⟨20, _⟩ => ⟨S1024x3584, .bf16⟩
  | .local _ .vmem, ⟨21, _⟩ => ⟨S1024x3584, .bf16⟩
  | .local _ .vmem, ⟨22, _⟩ => ⟨S1792x3584, .bf16⟩
  | .local _ .vmem, ⟨23, _⟩ => ⟨S1792x3584, .bf16⟩
  | .local _ .vmem, ⟨24, _⟩ => ⟨S1024x1792, .bf16⟩
  | .local _ .vmem, ⟨25, _⟩ => ⟨S1024x1792, .bf16⟩
  | _, _ => ⟨S4x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let c6_i32 : BitVec 32 := 6#32
  let v1 : BitVec 32 := Scalar.minsi arg2 c6_i32
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let c6_i32 : BitVec 32 := 6#32
  let v1 : BitVec 32 := Scalar.minsi arg2 c6_i32
  let v2 : BitVec 32 := Scalar.addi v0 v1
  let c0_i32 : BitVec 32 := 0#32
  ![v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let c6_i32 : BitVec 32 := 6#32
  let v1 : BitVec 32 := Scalar.minsi arg2 c6_i32
  let v2 : BitVec 32 := Scalar.addi v0 v1
  let c0_i32 : BitVec 32 := 0#32
  let c0_i32_0 : BitVec 32 := 0#32
  ![v2.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.muli arg0 c7_i32
  let c6_i32 : BitVec 32 := 6#32
  let v1 : BitVec 32 := Scalar.minsi arg2 c6_i32
  let v2 : BitVec 32 := Scalar.addi v0 v1
  let c0_i32 : BitVec 32 := 0#32
  ![v2.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S896x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x1792 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3584x1792 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1792 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x3584 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1792x3584 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1792 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S4x4096x3584 : Shape := ⟨3, ![4, 4096, 3584]⟩
abbrev S3584x3584 : Shape := ⟨2, ![3584, 3584]⟩
abbrev S28x128x28x128 : Shape := ⟨4, ![28, 128, 28, 128]⟩
abbrev S_ : Shape := ⟨0, ![]⟩
abbrev S28x28 : Shape := ⟨2, ![28, 28]⟩
abbrev S28x1x28x1 : Shape := ⟨4, ![28, 1, 28, 1]⟩

abbrev nBuf : Space → Nat
  | .hbm => 58
  | .vmem => 3
  | .smem => 0
  | _ => 0

abbrev bufTy : (tb : Table) → Fin (tcTables nBuf tb) → BufTy
  | .hbm, ⟨0, _⟩ => ⟨S4x4096x3584, .bf16⟩
  | .hbm, ⟨1, _⟩ => ⟨S3584x3584, .f32⟩
  | .hbm, ⟨2, _⟩ => ⟨S4x4096x3584, .bf16⟩
  | .hbm, ⟨3, _⟩ => ⟨S28x128x28x128, .f32⟩
  | .hbm, ⟨4, _⟩ => ⟨S28x128x28x128, .f32⟩
  | .hbm, ⟨5, _⟩ => ⟨S_, .f32⟩
  | .hbm, ⟨6, _⟩ => ⟨S28x28, .f32⟩
  | .hbm, ⟨7, _⟩ => ⟨S_, .f32⟩
  | .hbm, ⟨8, _⟩ => ⟨S28x28, .f32⟩
  | .hbm, ⟨9, _⟩ => ⟨S28x28, .f32⟩
  | .hbm, ⟨10, _⟩ => ⟨S_, .f32⟩
  | .hbm, ⟨11, _⟩ => ⟨S28x28, .f32⟩
  | .hbm, ⟨12, _⟩ => ⟨S28x28, .i1⟩
  | .hbm, ⟨13, _⟩ => ⟨S28x28, .f32⟩
  | .hbm, ⟨14, _⟩ => ⟨S_, .f32⟩
  | .hbm, ⟨15, _⟩ => ⟨S_, .f32⟩
  | .hbm, ⟨16, _⟩ => ⟨S28x28, .f32⟩
  | .hbm, ⟨17, _⟩ => ⟨S28x28, .f32⟩
  | .hbm, ⟨18, _⟩ => ⟨S28x28, .f32⟩
  | .hbm, ⟨19, _⟩ => ⟨S_, .f32⟩
  | .hbm, ⟨20, _⟩ => ⟨S28x28, .f32⟩
  | .hbm, ⟨21, _⟩ => ⟨S28x28, .f32⟩
  | .hbm, ⟨22, _⟩ => ⟨S_, .f32⟩
  | .hbm, ⟨23, _⟩ => ⟨S_, .f32⟩
  | .hbm, ⟨24, _⟩ => ⟨S28x28, .f32⟩
  | .hbm, ⟨25, _⟩ => ⟨S28x28, .f32⟩
  | .hbm, ⟨26, _⟩ => ⟨S_, .f32⟩
  | .hbm, ⟨27, _⟩ => ⟨S28x28, .f32⟩
  | .hbm, ⟨28, _⟩ => ⟨S28x28, .f32⟩
  | .hbm, ⟨29, _⟩ => ⟨S28x28, .f32⟩
  | .hbm, ⟨30, _⟩ => ⟨S_, .f32⟩
  | .hbm, ⟨31, _⟩ => ⟨S28x28, .f32⟩
  | .hbm, ⟨32, _⟩ => ⟨S28x28, .f32⟩
  | .hbm, ⟨33, _⟩ => ⟨S28x1x28x1, .f32⟩
  | .hbm, ⟨34, _⟩ => ⟨S28x128x28x128, .f32⟩
  | .hbm, ⟨35, _⟩ => ⟨S28x128x28x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S28x128x28x128, .f32⟩
  | .hbm, ⟨40, _⟩ => ⟨S28x128x28x128, .f32⟩
  | .hbm, ⟨41, _⟩ => ⟨S_, .f32⟩
  | .hbm, ⟨42, _⟩ => ⟨S28x128x28x128, .f32⟩
  | .hbm, ⟨43, _⟩ => ⟨S28x128x28x128, .f32⟩
  | .hbm, ⟨44, _⟩ => ⟨S3584x3584, .f32⟩
  | .hbm, ⟨45, _⟩ => ⟨S3584x3584, .fp8e4m3⟩
  | .hbm, ⟨46, _⟩ => ⟨S3584x3584, .bf16⟩
  | .hbm, ⟨47, _⟩ => ⟨S28x28, .bf16⟩
  | .hbm, ⟨48, _⟩ => ⟨S28x1x28x1, .bf16⟩
  | .hbm, ⟨49, _⟩ => ⟨S28x128x28x128, .bf16⟩
  | .hbm, ⟨50, _⟩ => ⟨S28x128x28x128, .bf16⟩
  | .hbm, ⟨51, _⟩ => ⟨S28x128x28x128, .bf16⟩
  | .hbm, ⟨52, _⟩ => ⟨S3584x3584, .bf16⟩
  | .hbm, ⟨53, _⟩ => ⟨S4x4096x3584, .f32⟩
  | .hbm, ⟨54, _⟩ => ⟨S4x4096x3584, .bf16⟩
  | .hbm, ⟨55, _⟩ => ⟨S4x4096x3584, .f32⟩
  | .hbm, ⟨56, _⟩ => ⟨S4x4096x3584, .bf16⟩
  | .hbm, ⟨57, _⟩ => ⟨S3584x3584, .f32⟩
  | .local _ .vmem, ⟨0, _⟩ => ⟨S3584x3584, .f32⟩
  | .local _ .vmem, ⟨1, _⟩ => ⟨S3584x3584, .fp8e4m3⟩
  | .local _ .vmem, ⟨2, _⟩ => ⟨S3584x3584, .bf16⟩
  | _, _ => ⟨S4x4096x3584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3584x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelRun.lean ====
/-
  The run of the kernel's program, with its five results named by what the three kernel calls leave in their arrays.

  `run` is the generated launch once more with the results kept in its conclusion; the theorems after it read the
  lines of host operations around the calls: the flattening of the tokens before, the splitting and the selection of one
  scale per tile after.
-/
module

public import proofs.«01_k».proof.Proof.Gen.KernelIdeal.Frame
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Value

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first call reads the input with its tokens in one row after another. -/
theorem V1_main_v0 (c : Dev nD) : V1 m ρ c main_v0
    = shapeCast S16384x3584 (m ((c : Thread nD τ).loc main_arg0)) shapeCasts_S4x4096x3584_S16384x3584 := by
  change StableHlo.after hostOps0 (W0 m ρ c) (Proc.devRef .tc main_v0) = _
  after_results
  rfl

/-- The first call reads the output gradient with its tokens in one row after another. -/
theorem V1_main_v1 (c : Dev nD) : V1 m ρ c main_v1
    = shapeCast S16384x3584 (m ((c : Thread nD τ).loc main_arg2)) shapeCasts_S4x4096x3584_S16384x3584 := by
  change StableHlo.after hostOps0 (W0 m ρ c) (Proc.devRef .tc main_v1) = _
  after_results
  rfl

/-- The first call reads the weights as they were at the start. -/
theorem V1_main_arg1 (c : Dev nD) : V1 m ρ c main_arg1 = m ((c : Thread nD τ).loc main_arg1) :=
  W1_args m ρ c main_arg1 (by decide)

/-- The second call reads the input with its tokens in one row after another. -/
theorem V2_main_v0 (c : Dev nD) : V2 m ρ c main_v0
    = shapeCast S16384x3584 (m ((c : Thread nD τ).loc main_arg0)) shapeCasts_S4x4096x3584_S16384x3584 :=
  (W2_of m ρ c main_v0 (by decide)).trans (V1_main_v0 m ρ c)

/-- The second call reads the quantised weights the first call wrote. -/
theorem V2_main_v2_3 (c : Dev nD) : V2 m ρ c main_v2_3 = (dat0 (V1 m ρ) c).arrAt 6 cfg0.N := W2_arr m ρ c 6

/-- The third call reads the quantised weights the first call wrote. -/
theorem V4_main_v2_3 (c : Dev nD) : V4 m ρ c main_v2_3 = (dat0 (V1 m ρ) c).arrAt 6 cfg0.N :=
  (W4_of m ρ c main_v2_3 (by decide)).trans ((W3_of m ρ c main_v2_3 (by decide)).trans (W2_arr m ρ c 6))

/-- The third call reads the output gradient with its tokens in one row after another. -/
theorem V4_main_v1 (c : Dev nD) : V4 m ρ c main_v1
    = shapeCast S16384x3584 (m ((c : Thread nD τ).loc main_arg2)) shapeCasts_S4x4096x3584_S16384x3584 :=
  (W4_of m ρ c main_v1 (by decide)).trans ((W3_of m ρ c main_v1 (by decide)).trans
    ((W2_of m ρ c main_v1 (by decide)).trans (V1_main_v1 m ρ c)))

/-- At the end the gradient of the weights is the first call's. -/
theorem W6_main_v2_0 (c : Dev nD) : W6 m ρ c (Proc.devRef .tc main_v2_0) = (dat0 (V1 m ρ) c).arrAt 3 cfg0.N :=
  (W6_of m ρ c main_v2_0 (by decide)).trans ((W5_of m ρ c main_v2_0 (by decide)).trans
    ((W4_of m ρ c main_v2_0 (by decide)).trans ((W3_of m ρ c main_v2_0 (by decide)).trans (W2_arr m ρ c 3))))

/-- At the end the codes are the first call's. -/
theorem W6_main_v2_1 (c : Dev nD) : W6 m ρ c (Proc.devRef .tc main_v2_1) = (dat0 (V1 m ρ) c).arrAt 4 cfg0.N :=
  (W6_of m ρ c main_v2_1 (by decide)).trans ((W5_of m ρ c main_v2_1 (by decide)).trans
    ((W4_of m ρ c main_v2_1 (by decide)).trans ((W3_of m ρ c main_v2_1 (by decide)).trans (W2_arr m ρ c 4))))

/-- Before the last lines the row of scales is the first call's. -/
theorem W5_main_v2_2 (c : Dev nD) : W5 m ρ c (Proc.devRef .tc main_v2_2) = (dat0 (V1 m ρ) c).arrAt 5 cfg0.N :=
  (W5_of m ρ c main_v2_2 (by decide)).trans
    ((W4_of m ρ c main_v2_2 (by decide)).trans ((W3_of m ρ c main_v2_2 (by decide)).trans (W2_arr m ρ c 5)))

/-- At the end the scales are every 128th of the first call's row of scales. -/
theorem W6_main_v8 (c : Dev nD) : W6 m ρ c (Proc.devRef .tc main_v8)
    = shapeCast S28x28 (Host.slice S28x1x28 ![0, 0, 0] ![1, 1, 128] ((dat0 (V1 m ρ) c).arrAt 5 cfg0.N)
        slicesBy_S28x1x3584_S28x1x28_0s1_0s1_0s128) shapeCasts_S28x1x28_S28x28 := by
  rw [← W5_main_v2_2]
  after_results
  rfl

/-- At the end the gradient of the input is the third call's product. -/
theorem W6_main_v6 (c : Dev nD) : W6 m ρ c (Proc.devRef .tc main_v6)
    = shapeCast S4x4096x3584 ((dat2 (V4 m ρ) c).arrAt 2 cfg2.N) shapeCasts_S16384x3584_S4x4096x3584 := by
  rw [← W5_arr]
  after_results
  rfl

/-- At the end the output is the second call's product. -/
theorem W6_main_v4 (c : Dev nD) : W6 m ρ c (Proc.devRef .tc main_v4)
    = shapeCast S4x4096x3584 ((dat1 (V2 m ρ) c).arrAt 2 cfg1.N) shapeCasts_S16384x3584_S4x4096x3584 := by
  refine (W6_of m ρ c main_v4 (by decide)).trans ((W5_of m ρ c main_v4 (by decide)).trans ?_)
  rw [← W3_arr]
  after_results
  rfl

set_option backward.isDefEq.respectTransparency.types false in
/-- The kernel ends with these five arrays, and its arguments unchanged. -/
theorem run : θ_run defs (onTc (τ := τ) (main (F := F))) ⟨m, fun _ => 0, ρ⟩ (fun r => ∀ c : Dev nD,
      r.2.mem ((c.tc : Thread nD τ).loc main_v4)
        = shapeCast S4x4096x3584 ((dat1 (V2 m ρ) c).arrAt 2 cfg1.N) shapeCasts_S16384x3584_S4x4096x3584
      ∧ r.2.mem ((c.tc : Thread nD τ).loc main_v6)
        = shapeCast S4x4096x3584 ((dat2 (V4 m ρ) c).arrAt 2 cfg2.N) shapeCasts_S16384x3584_S4x4096x3584
      ∧ r.2.mem ((c.tc : Thread nD τ).loc main_v2_0) = (dat0 (V1 m ρ) c).arrAt 3 cfg0.N
      ∧ r.2.mem ((c.tc : Thread nD τ).loc main_v2_1) = (dat0 (V1 m ρ) c).arrAt 4 cfg0.N
      ∧ r.2.mem ((c.tc : Thread nD τ).loc main_v8)
        = shapeCast S28x28 (Host.slice S28x1x28 ![0, 0, 0] ![1, 1, 128] ((dat0 (V1 m ρ) c).arrAt 5 cfg0.N)
          slicesBy_S28x1x3584_S28x1x28_0s1_0s1_0s128) shapeCasts_S28x1x28_S28x28
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v4 (by decide))).trans (W6_main_v4 m ρ c),
       (h c _ (mem_uc main_v6 (by decide))).trans (W6_main_v6 m ρ c),
       (h c _ (mem_uc main_v2_0 (by decide))).trans (W6_main_v2_0 m ρ c),
       (h c _ (mem_uc main_v2_1 (by decide))).trans (W6_main_v2_1 m ρ c),
       (h c _ (mem_uc main_v8 (by decide))).trans (W6_main_v8 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Value
-- ==== Proof.Tiles.lean ====
/-
  What one grid point of the first kernel call leaves in its output blocks, as functions of its input blocks.

  The body quantises a strip of 128 rows and 1792 columns of `w`, unrolled over the fourteen 128 by 128 tiles of the
  strip. The printed body numbers the intermediate values of every tile separately, but each tile's three stores are the
  same three functions of that tile: `codesOf`, `wqOf`, `scaleOf`. `tilewise` and `tilewiseRow` lay such a function over
  a strip, and the theorems `codes_strip`, `scale_strip`, `wq_strip` say that this is what a point stores, whichever
  branch of the body's condition it takes. The block of `dw` is the sum of what was there (zero at the first of the
  eight points of a run) and the product of the point's blocks of `x` and `g` (`dw_first`, `dw_next`).
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- The codes of a tile of `w`. -/
def codesOf (w : Vec F S128x128 .f32) : Vec F S128x128 .fp8e4m3 := k0_pay6 (k0_pay5 w)

/-- The quantised tile in bfloat16: its codes times its scale. -/
def wqOf (w : Vec F S128x128 .f32) : Vec F S128x128 .bf16 := k0_pay7 (k0_pay4 w) (k0_pay5 w)

/-- The tile's scale, repeated along a row of 128. -/
def scaleOf (w : Vec F S128x128 .f32) : Vec F S1x1x128 .f32 := k0_pay8 (k0_pay4 w)

/-- The tile of a strip in which column `q` lies. -/
def tileAt {e : EltTy} (x : Vec F S128x1792 e) (q : Fin 1792) : Vec F S128x128 e :=
  fun z => x (ix2 (z 0) ⟨q.val / 128 * 128 + (z 1).val, by have h1 : (z 1).val < 128 := (z 1).isLt; omega⟩)

/-- A function of a tile laid over the tiles of a strip. -/
def tilewise {e : EltTy} (f : Vec F S128x128 .f32 → Vec F S128x128 e) (x : Vec F S128x1792 .f32) : Vec F S128x1792 e :=
  fun y => f (tileAt x (y 1)) (ix2 (y 0) ⟨(y 1).val % 128, Nat.mod_lt _ (by decide)⟩)

/-- A function from a tile to a row of 128 laid over the tiles of a strip. -/
def tilewiseRow {e : EltTy} (f : Vec F S128x128 .f32 → Vec F S1x1x128 e) (x : Vec F S128x1792 .f32) :
    Vec F S1x1x1792 e :=
  fun y => f (tileAt x (y 2)) (ix3 0 0 ⟨(y 2).val % 128, Nat.mod_lt _ (by decide)⟩)

/-- A load of the tile at column offset `o` is the tile in which the columns of that load lie. -/
theorem ld_tile (x : Vec F S128x1792 .f32) (o : ℕ) (ho : o % 128 = 0)
    (inb : ∀ a, (![0, o] : Fin 2 → ℕ) a + (![128, 128] : Fin 2 → ℕ) a ≤ S128x1792.size a) (q : Fin 1792) (r : ℕ)
    (hr : r < 128) (hq : q.val = o + r) : View.ld x (Rect.unit ![0, o] ![128, 128] inb) = tileAt x q := by
  funext z
  have h1 : (z 1).val < 128 := (z 1).isLt
  rw [View.ld_unit]
  unfold extractStridedSlice tileAt
  congr 1
  funext a
  apply Fin.ext
  match a with
  | ⟨0, _⟩ => show 0 + (z 0).val = (z 0).val; omega
  | ⟨1, _⟩ => show o + (z 1).val = q.val / 128 * 128 + (z 1).val; omega

/-- The store of one tile is a piece of the function laid over the strip. -/
theorem piece_tile {e : EltTy} (f : Vec F S128x128 .f32 → Vec F S128x128 e) (x : Vec F S128x1792 .f32) (o : ℕ)
    (ho : o % 128 = 0)
    (inb : ∀ a, (![0, o] : Fin 2 → ℕ) a + (![128, 128] : Fin 2 → ℕ) a ≤ S128x1792.size a) (v : Vec F S128x128 e)
    (hv : v = f (View.ld x (Rect.unit ![0, o] ![128, 128] inb)))
    (z : (Rect.unit (s := S128x1792) ![0, o] ![128, 128] inb).shape.Idx) :
    v z = tilewise f x ((Rect.unit (s := S128x1792) ![0, o] ![128, 128] inb).emb z) := by
  have h1 : (z 1).val < 128 := (z 1).isLt
  have e0 : ((Rect.unit (s := S128x1792) ![0, o] ![128, 128] inb).emb z 0).val = (z 0).val := by
    show 0 + 1 * (z 0).val = _; omega
  have e1 : ((Rect.unit (s := S128x1792) ![0, o] ![128, 128] inb).emb z 1).val = o + (z 1).val := by
    show o + 1 * (z 1).val = _; omega
  unfold tilewise
  rw [hv, ← ld_tile x o ho inb _ (z 1).val h1 e1]
  congr 1
  funext a
  apply Fin.ext
  match a with
  | ⟨0, _⟩ => exact e0.symm
  | ⟨1, _⟩ =>
    show (z 1).val = ((Rect.unit (s := S128x1792) ![0, o] ![128, 128] inb).emb z 1).val % 128
    omega

/-- The same for the row of scales. -/
theorem piece_row {e : EltTy} (f : Vec F S128x128 .f32 → Vec F S1x1x128 e) (x : Vec F S128x1792 .f32) (o : ℕ)
    (ho : o % 128 = 0)
    (inb : ∀ a, (![0, o] : Fin 2 → ℕ) a + (![128, 128] : Fin 2 → ℕ) a ≤ S128x1792.size a)
    (inb' : ∀ a, (![0, 0, o] : Fin 3 → ℕ) a + (![1, 1, 128] : Fin 3 → ℕ) a ≤ S1x1x1792.size a)
    (v : Vec F S1x1x128 e) (hv : v = f (View.ld x (Rect.unit ![0, o] ![128, 128] inb)))
    (z : (Rect.unit (s := S1x1x1792) ![0, 0, o] ![1, 1, 128] inb').shape.Idx) :
    v z = tilewiseRow f x ((Rect.unit (s := S1x1x1792) ![0, 0, o] ![1, 1, 128] inb').emb z) := by
  have h0 : (z 0).val < 1 := (z 0).isLt
  have h1 : (z 1).val < 1 := (z 1).isLt
  have h2 : (z 2).val < 128 := (z 2).isLt
  have e2 : ((Rect.unit (s := S1x1x1792) ![0, 0, o] ![1, 1, 128] inb').emb z 2).val = o + (z 2).val := by
    show o + 1 * (z 2).val = _; omega
  unfold tilewiseRow
  rw [hv, ← ld_tile x o ho inb _ (z 2).val h2 e2]
  congr 1
  funext a
  apply Fin.ext
  match a with
  | ⟨0, _⟩ => show (z 0).val = 0; omega
  | ⟨1, _⟩ => show (z 1).val = 0; omega
  | ⟨2, _⟩ =>
    show (z 2).val = ((Rect.unit (s := S1x1x1792) ![0, 0, o] ![1, 1, 128] inb').emb z 2).val % 128
    omega

/-- Stores that are pieces of `G` and cover the buffer leave `G`. -/
theorem canon_of_pieces {S : Shape} {e : EltTy} (G : S.Idx → Elt F e) (L : List (View.Piece (Elt F) S e))
    (h : View.PiecesOf G L) (hc : ∀ y, ∃ p ∈ L, y ∈ p.1.set) : View.canon L = G :=
  funext fun y => by simpa using View.canon_append_of_piecesOf G [] L h y (hc y)

variable (c : Dev nD) (i : grid0.Coords) (a3 : Memref sig .tc .vmem S2048x896 .bf16) (h3 : a3.IsWhole)
  (a4 : Memref sig .tc .vmem S2048x1792 .bf16) (h4 : a4.IsWhole) (a5 : Memref sig .tc .vmem S128x1792 .f32)
  (h5 : a5.IsWhole) (a6 : Memref sig .tc .vmem S896x1792 .f32) (h6 : a6.IsWhole)
  (a7 : Memref sig .tc .vmem S128x1792 .fp8e4m3) (h7 : a7.IsWhole) (a8 : Memref sig .tc .vmem S1x1x1792 .f32)
  (h8 : a8.IsWhole) (a9 : Memref sig .tc .vmem S128x1792 .bf16) (h9 : a9.IsWhole)
  (x0 : Vec F S2048x896 .bf16) (x1 : Vec F S2048x1792 .bf16) (x2 : Vec F S128x1792 .f32) (xo : Vec F S896x1792 .f32)

/-- The block of `dw` after the first point of a run: zero plus the product of the point's blocks. -/
theorem dw_first (hc : cond0_0 i) : out0_A_3 c i a3 h3 a4 h4 a5 h5 a6 h6 a7 h7 a8 h8 a9 h9 hc x0 x1 x2
    = k0_pay1 k0_pay2 x0 x1 := by
  funext y
  frame_out
  rfl

/-- The block of `dw` after a later point of a run: what was there plus the product of the point's blocks. -/
theorem dw_next (hc : ¬cond0_0 i) : out0_B_3 c i a3 h3 a4 h4 a5 h5 a6 h6 a7 h7 a8 h8 a9 h9 hc x0 x1 x2 xo
    = k0_pay1 xo x0 x1 := by
  funext y
  frame_out
  unfold k0_pay97
  rw [shapeCast_self]

/-- The codes a first point of a run stores. -/
theorem codes_first (hc : cond0_0 i) : out0_A_4 c i a3 h3 a4 h4 a5 h5 a6 h6 a7 h7 a8 h8 a9 h9 hc x0 x1 x2
    = tilewise codesOf x2 := by
  funext y
  frame_out
  refine congrFun (canon_of_pieces (S := S128x1792) _ _ ?_ fun y => View.cover_of_tiledL _ ![128, 128] (by sl_kernel_rfl) y) y
  refine ⟨?_, ?_, ?_, ?_, ?_, ?_, ?_, ?_, ?_, ?_, ?_, ?_, ?_, ?_, trivial⟩ <;>
    exact piece_tile codesOf x2 _ (by decide) _ _ rfl

/-- The codes a later point of a run stores. -/
theorem codes_next (hc : ¬cond0_0 i) : out0_B_4 c i a3 h3 a4 h4 a5 h5 a6 h6 a7 h7 a8 h8 a9 h9 hc x0 x1 x2 xo
    = tilewise codesOf x2 := by
  funext y
  frame_out
  refine congrFun (canon_of_pieces (S := S128x1792) _ _ ?_ fun y => View.cover_of_tiledL _ ![128, 128] (by sl_kernel_rfl) y) y
  refine ⟨?_, ?_, ?_, ?_, ?_, ?_, ?_, ?_, ?_, ?_, ?_, ?_, ?_, ?_, trivial⟩ <;>
    exact piece_tile codesOf x2 _ (by decide) _ _ rfl

/-- The row of scales a first point of a run stores. -/
theorem scale_first (hc : cond0_0 i) : out0_A_5 c i a3 h3 a4 h4 a5 h5 a6 h6 a7 h7 a8 h8 a9 h9 hc x0 x1 x2
    = tilewiseRow scaleOf x2 := by
  funext y
  frame_out
  refine congrFun (canon_of_pieces (S := S1x1x1792) _ _ ?_ fun y => View.cover_of_tiledL _ ![1, 1, 128] (by sl_kernel_rfl) y) y
  refine ⟨?_, ?_, ?_, ?_, ?_, ?_, ?_, ?_, ?_, ?_, ?_, ?_, ?_, ?_, trivial⟩ <;>
    exact piece_row scaleOf x2 _ (by decide) (by decide) (by decide) _ rfl

/-- The row of scales a later point of a run stores. -/
theorem scale_next (hc : ¬cond0_0 i) : out0_B_5 c i a3 h3 a4 h4 a5 h5 a6 h6 a7 h7 a8 h8 a9 h9 hc x0 x1 x2 xo
    = tilewiseRow scaleOf x2 := by
  funext y
  frame_out
  refine congrFun (canon_of_pieces (S := S1x1x1792) _ _ ?_ fun y => View.cover_of_tiledL _ ![1, 1, 128] (by sl_kernel_rfl) y) y
  refine ⟨?_, ?_, ?_, ?_, ?_, ?_, ?_, ?_, ?_, ?_, ?_, ?_, ?_, ?_, trivial⟩ <;>
    exact piece_row scaleOf x2 _ (by decide) (by decide) (by decide) _ rfl

/-- The quantised strip a first point of a run stores. -/
theorem wq_first (hc : cond0_0 i) : out0_A_6 c i a3 h3 a4 h4 a5 h5 a6 h6 a7 h7 a8 h8 a9 h9 hc x0 x1 x2
    = tilewise wqOf x2 := by
  funext y
  frame_out
  refine congrFun (canon_of_pieces (S := S128x1792) _ _ ?_ fun y => View.cover_of_tiledL _ ![128, 128] (by sl_kernel_rfl) y) y
  refine ⟨?_, ?_, ?_, ?_, ?_, ?_, ?_, ?_, ?_, ?_, ?_, ?_, ?_, ?_, trivial⟩ <;>
    exact piece_tile wqOf x2 _ (by decide) _ _ rfl

/-- The quantised strip a later point of a run stores. -/
theorem wq_next (hc : ¬cond0_0 i) : out0_B_6 c i a3 h3 a4 h4 a5 h5 a6 h6 a7 h7 a8 h8 a9 h9 hc x0 x1 x2 xo
    = tilewise wqOf x2 := by
  funext y
  frame_out
  refine congrFun (canon_of_pieces (S := S128x1792) _ _ ?_ fun y => View.cover_of_tiledL _ ![128, 128] (by sl_kernel_rfl) y) y
  refine ⟨?_, ?_, ?_, ?_, ?_, ?_, ?_, ?_, ?_, ?_, ?_, ?_, ?_, ?_, trivial⟩ <;>
    exact piece_tile wqOf x2 _ (by decide) _ _ rfl

variable (V : (c : Dev nD) → (b : Ref sig .tc) → Buf (Elt F) ((c : Thread nD τ).loc b))

/-- The codes after point `t`. -/
theorem codes_strip (t : Fin cfg0.N) :
    (outsAt0 V c t.val t.isLt).2.1 = tilewise codesOf (iblk0 V c 2 t) := by
  by_cases h : t.val % 8 = 0
  · rw [outsAt0_A V c t h]; dsimp only; apply codes_first
  · rw [outsAt0_B V c t h]; dsimp only; apply codes_next

/-- The row of scales after point `t`. -/
theorem scale_strip (t : Fin cfg0.N) :
    (outsAt0 V c t.val t.isLt).2.2.1 = tilewiseRow scaleOf (iblk0 V c 2 t) := by
  by_cases h : t.val % 8 = 0
  · rw [outsAt0_A V c t h]; dsimp only; apply scale_first
  · rw [outsAt0_B V c t h]; dsimp only; apply scale_next

/-- The quantised strip after point `t`. -/
theorem wq_strip (t : Fin cfg0.N) :
    (outsAt0 V c t.val t.isLt).2.2.2 = tilewise wqOf (iblk0 V c 2 t) := by
  by_cases h : t.val % 8 = 0
  · rw [outsAt0_A V c t h]; dsimp only; apply wq_first
  · rw [outsAt0_B V c t h]; dsimp only; apply wq_next

end Cert.KernelIdeal.Value
-- ==== Proof.ProductArrays.lean ====
/-
  The three products of the kernel on exact numbers: `dw` from the first call, `y` and `dx` from the other two.

  A tile of `dw` is accumulated over the eight points of a run, 2048 tokens at each, so the whole sum runs over the 16384
  tokens. A tile of `y` or `dx` is one product over all 3584 columns.
-/
module

public import proofs.«01_k».proof.Proof.Tiles
public import Idealize.ShloMosaic.PureOps.Ideal

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.KernelIdeal.Value

open Cert.KernelIdeal Cert.KernelIdeal.Gen

/-- Summing over the tokens: entry (i, o) is the sum over the tokens of `x` at column i times `g` at column o. -/
def tokenSum (x g : Vec Ideal S16384x3584 .bf16) : Vec Ideal S3584x3584 .f32 :=
  fun i => ∑ n : Fin 16384, (x (ix2 n (i 0)) : EReal) * g (ix2 n (i 1))

/-- Rows of `x` against columns of `w`. -/
def rowsByColumns (x : Vec Ideal S16384x3584 .bf16) (w : Vec Ideal S3584x3584 .bf16) : Vec Ideal S16384x3584 .bf16 :=
  fun i => ∑ k : Fin 3584, (x (ix2 (i 0) k) : EReal) * w (ix2 k (i 1))

/-- Rows of `g` against rows of `w`. -/
def rowsByRows (g : Vec Ideal S16384x3584 .bf16) (w : Vec Ideal S3584x3584 .bf16) : Vec Ideal S16384x3584 .bf16 :=
  fun i => ∑ k : Fin 3584, (g (ix2 (i 0) k) : EReal) * w (ix2 (i 1) k)

/-- A point's contribution to its tile of `dw`. -/
theorem pay_dw (a : Vec Ideal S896x1792 .f32) (x : Vec Ideal S2048x896 .bf16) (g : Vec Ideal S2048x1792 .bf16)
    (j : S896x1792.Idx) :
    k0_pay1 a x g j = (a j : EReal) + ∑ l : Fin 2048, (x (ix2 l (j 0)) : EReal) * g (ix2 l (j 1)) := by
  pointwise [k0_pay1]

/-- A run starts from zero. -/
theorem pay_zero (j : S896x1792.Idx) : (k0_pay2 (F := Ideal)) j = (0 : EReal) := by
  pointwise [k0_pay2]

/-- A tile of `y`. -/
theorem pay_y (x : Vec Ideal S1024x3584 .bf16) (w : Vec Ideal S3584x1792 .bf16) (j : S1024x1792.Idx) :
    k1_pay1 x w j = ∑ k : Fin 3584, (x (ix2 (j 0) k) : EReal) * w (ix2 k (j 1)) := by
  pointwise [k1_pay1]

/-- A tile of `dx`. -/
theorem pay_dx (x : Vec Ideal S1024x3584 .bf16) (w : Vec Ideal S1792x3584 .bf16) (j : S1024x1792.Idx) :
    k2_pay1 x w j = ∑ k : Fin 3584, (x (ix2 (j 0) k) : EReal) * w (ix2 (j 1) k) := by
  pointwise [k2_pay1]

variable (V : (c : Dev nD) → (b : Ref sig .tc) → Buf (Elt Ideal) ((c : Thread nD τ).loc b)) (c : Dev nD)

/-- The block of `x` a point of the first call reads. -/
abbrev xBlock (t : Fin cfg0.N) : Vec Ideal S2048x896 .bf16 := iblk0 V c 0 t

/-- The block of `g` a point of the first call reads. -/
abbrev gBlock (t : Fin cfg0.N) : Vec Ideal S2048x1792 .bf16 := iblk0 V c 1 t

/-- The first point of a run starts from zero. -/
theorem dw_reset (t : Fin cfg0.N) (h : t.val % 8 = 0) :
    (outsAt0 V c t.val t.isLt).1 = k0_pay1 k0_pay2 (xBlock V c t) (gBlock V c t) := by
  rw [outsAt0_A V c t h]
  dsimp only
  rw [dw_first]

/-- A later point starts from what the point before left. -/
theorem dw_step (t : Fin cfg0.N) (h : ¬t.val % 8 = 0) :
    (outsAt0 V c t.val t.isLt).1 = k0_pay1 (outsAt0 V c (t.val - 1) (Nat.lt_of_le_of_lt (Nat.sub_le _ _) t.isLt)).1
      (xBlock V c t) (gBlock V c t) := by
  rw [outsAt0_B V c t h]
  dsimp only
  rw [dw_next]

/-- Every point adds its contribution to what the point before left; the first of a run adds it to zero. So after the
    last point of a run the tile holds the sum of the run's eight contributions. -/
theorem dw_sum (t : Fin cfg0.N) (ht : t.val % 8 = 7) (j : S896x1792.Idx) :
    (outsAt0 V c t.val t.isLt).1 j = (0 : EReal) + ∑ s : Fin 8, ∑ l : Fin 2048,
      (xBlock V c ⟨8 * (t.val / 8) + s.val, Pipeline.run_point_lt_of_flush t ht s⟩ (ix2 l (j 0)) : EReal)
        * gBlock V c ⟨8 * (t.val / 8) + s.val, Pipeline.run_point_lt_of_flush t ht s⟩ (ix2 l (j 1)) := by
  refine Pipeline.eq_sum_fin_of_reset_step_apply_of_flush (M := EReal) (fun n h => (outsAt0 V c n h).1) 8 (fun _ => 0)
    (fun t j => ∑ l : Fin 2048, (xBlock V c t (ix2 l (j 0)) : EReal) * gBlock V c t (ix2 l (j 1))) ?_ ?_ t ht j
  · intro t h j
    exact (congrFun (dw_reset V c t h) j).trans ((pay_dw _ _ _ _).trans (congrArg (· + _) (pay_zero j)))
  · intro t h j
    exact (congrFun (dw_step V c t h) j).trans (pay_dw _ _ _ _)

/-- `dw` after the first call. -/
theorem arr_dw : (dat0 V c).arrAt 3 cfg0.N = tokenSum (V c main_v0) (V c main_v1) := by
  refine (dat0 V c).arrAt_eq_of_covers 3 _ (by decide +kernel) fun t hf y => ?_
  have ht : t.val % 8 = 7 := (flush0_3 t).mp hf
  rw [after0_3]
  blk_simp
  refine (dw_sum V c t ht y).trans ?_
  rw [zero_add]
  unfold tokenSum
  refine Fin.sum_mul_add_congr fun s l hl => ?_
  have e0 : ∀ (t : Fin cfg0.N), t.val % 8 = 7 → ∀ (s : Fin 8) (h : 8 * (t.val / 8) + s.val < cfg0.N),
      (cfg0.win 0).index ⟨8 * (t.val / 8) + s.val, h⟩ 0 = s.val
      ∧ (cfg0.win 0).index ⟨8 * (t.val / 8) + s.val, h⟩ 1 = (cfg0.win 3).index t 0
      ∧ (cfg0.win 1).index ⟨8 * (t.val / 8) + s.val, h⟩ 0 = s.val
      ∧ (cfg0.win 1).index ⟨8 * (t.val / 8) + s.val, h⟩ 1 = (cfg0.win 3).index t 1 := by decide +kernel
  obtain ⟨a0, a1, b0, b1⟩ := e0 t ht s (Pipeline.run_point_lt_of_flush t ht s)
  congr 1
  · blk_ext [iblk0, a0, a1]
  · blk_ext [iblk0, b0, b1]

/-- The first product after the second call. -/
theorem arr_y : (dat1 V c).arrAt 2 cfg1.N = rowsByColumns (V c main_v0) (V c main_v2_3) := by
  refine (dat1 V c).arrAt_eq_of_covers 2 _ (by decide +kernel) fun t hf y => ?_
  have e : ∀ t : Fin cfg1.N, (cfg1.win 0).index t 0 = (cfg1.win 2).index t 0 ∧ (cfg1.win 0).index t 1 = 0
      ∧ (cfg1.win 1).index t 0 = 0 ∧ (cfg1.win 1).index t 1 = (cfg1.win 2).index t 1 := by decide +kernel
  obtain ⟨a0, a1, b0, b1⟩ := e t
  rw [after1_2]
  blk_simp
  frame_out
  refine (pay_y _ _ y).trans ?_
  unfold rowsByColumns
  refine Finset.sum_congr rfl fun k _ => ?_
  congr 1
  · blk_ext [iblk1, a0, a1]
  · blk_ext [iblk1, b0, b1]

/-- The second product after the third call. -/
theorem arr_dx : (dat2 V c).arrAt 2 cfg2.N = rowsByRows (V c main_v1) (V c main_v2_3) := by
  refine (dat2 V c).arrAt_eq_of_covers 2 _ (by decide +kernel) fun t hf y => ?_
  have e : ∀ t : Fin cfg2.N, (cfg2.win 0).index t 0 = (cfg2.win 2).index t 0 ∧ (cfg2.win 0).index t 1 = 0
      ∧ (cfg2.win 1).index t 1 = 0 ∧ (cfg2.win 1).index t 0 = (cfg2.win 2).index t 1 := by decide +kernel
  obtain ⟨a0, a1, b0, b1⟩ := e t
  rw [after2_2]
  blk_simp
  frame_out
  refine (pay_dx _ _ y).trans ?_
  unfold rowsByRows
  refine Finset.sum_congr rfl fun k _ => ?_
  congr 1
  · blk_ext [iblk2, a0, a1]
  · blk_ext [iblk2, b0, b1]

end Cert.KernelIdeal.Value
-- ==== Proof.ReferenceRun.lean ====
/-
  The run of the reference's program, with its five results as composed terms of its arguments.

  `blockMax`, `exponent`, `scale`, `inverse`, `scaled` and `widened` are the reference's own lines in order; `run` states
  what its run leaves in the five result buffers.
-/
module

public import proofs.«01_k».proof.Proof.Gen.ReferenceIdeal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.ReferenceIdeal.Value

open Cert.ReferenceIdeal Cert.ReferenceIdeal.Gen

variable {F : FTy → Type} [FloatOps F]

/-- The weights with rows and columns split into 28 blocks of 128 each. -/
def blocks (w : Vec F S3584x3584 .f32) : Vec F S28x128x28x128 .f32 :=
  shapeCast S28x128x28x128 w shapeCasts_S3584x3584_S28x128x28x128

/-- The greatest magnitude of every 128 by 128 block. -/
def blockMax (w : Vec F S3584x3584 .f32) : Vec F S28x28 .f32 :=
  Host.reduce FloatOps.maximumf (Host.absf (blocks w)) (constant S_ .f32 0xFF800000#32)
    reducesTo_S28x128x28x128_S28x28_d1_3 h_S_

/-- The exponent of every block's scale. -/
def exponent (w : Vec F S3584x3584 .f32) : Vec F S28x28 .f32 :=
  select (cmpf .oeq (blockMax w) (broadcastInDim S28x28 ![] bcast_S_S28x28 (constant S_ .f32 0x00000000#32)))
    (broadcastInDim S28x28 ![] bcast_S_S28x28 (constant S_ .f32 0x00000000#32))
    (addf (Host.floor (Host.divf
        (Host.log (mulf (blockMax w) (broadcastInDim S28x28 ![] bcast_S_S28x28 (constant S_ .f32 0x3B124925#32))))
        (broadcastInDim S28x28 ![] bcast_S_S28x28 (Host.log (constant S_ .f32 0x40000000#32)))))
      (broadcastInDim S28x28 ![] bcast_S_S28x28 (constant S_ .f32 0x3F800000#32)))

/-- Every block's scale. -/
def scale (w : Vec F S3584x3584 .f32) : Vec F S28x28 .f32 :=
  Host.powf (broadcastInDim S28x28 ![] bcast_S_S28x28 (constant S_ .f32 0x40000000#32)) (exponent w)

/-- The reciprocal of every block's scale. -/
def inverse (w : Vec F S3584x3584 .f32) : Vec F S28x28 .f32 :=
  Host.powf (broadcastInDim S28x28 ![] bcast_S_S28x28 (constant S_ .f32 0x40000000#32)) (Host.negf (exponent w))

/-- The weights over their block's scale, held within the format's range. -/
def scaled (w : Vec F S3584x3584 .f32) : Vec F S3584x3584 .f32 :=
  shapeCast S3584x3584
    (minimumf (broadcastInDim S28x128x28x128 ![] bcast_S_S28x128x28x128 (constant S_ .f32 0x43E00000#32))
      (maximumf (broadcastInDim S28x128x28x128 ![] bcast_S_S28x128x28x128 (constant S_ .f32 0xC3E00000#32))
        (mulf (blocks w) (broadcastInDim S28x128x28x128 ![0, 1, 2, 3] bcast_S28x1x28x1_S28x128x28x128_0_1_2_3
          (broadcastInDim S28x1x28x1 ![0, 2] bcast_S28x28_S28x1x28x1_0_2 (inverse w))))))
    shapeCasts_S28x128x28x128_S3584x3584

/-- The codes. -/
def codes (w : Vec F S3584x3584 .f32) : Vec F S3584x3584 .fp8e4m3 :=
  truncf .fp8e4m3 (scaled w) bitsLt_fp8e4m3_f32

/-- The weights as they enter the two products: every code widened, times its block's scale. -/
def widened (w : Vec F S3584x3584 .f32) : Vec F S3584x3584 .bf16 :=
  shapeCast S3584x3584
    (mulf (shapeCast S28x128x28x128 (extf .bf16 (codes w) bitsLt_fp8e4m3_bf16) shapeCasts_S3584x3584_S28x128x28x128)
      (broadcastInDim S28x128x28x128 ![0, 1, 2, 3] bcast_S28x1x28x1_S28x128x28x128_0_1_2_3
        (broadcastInDim S28x1x28x1 ![0, 2] bcast_S28x28_S28x1x28x1_0_2 (truncf .bf16 (scale w) bitsLt_bf16_f32))))
    shapeCasts_S28x128x28x128_S3584x3584

variable (m : (ℓ : Loc nD τ sig) → Buf (Elt F) ℓ) (ρ : Dev nD → PrngReg)

/-- What the cast's call finds in its operand. -/
theorem V_main_v24 (c : Dev nD) : V m c main_v24 = scaled (m ((c : Thread nD τ).loc main_arg1)) := by
  change StableHlo.after (List.flatten [hostOps0, hostOps0_1, hostOps0_2, hostOps0_3, hostOps0_4]) (fun b => m (c, b))
    (Proc.devRef .tc main_v24) = _
  simp only [List.flatten_cons, List.flatten_nil, List.append_nil, List.cons_append, List.nil_append]
  after_results_simp
  rfl

/-- The scales are there before the cast's call. -/
theorem V_main_v16 (c : Dev nD) : V m c main_v16 = scale (m ((c : Thread nD τ).loc main_arg1)) := by
  change StableHlo.after (List.flatten [hostOps0, hostOps0_1, hostOps0_2, hostOps0_3, hostOps0_4]) (fun b => m (c, b))
    (Proc.devRef .tc main_v16) = _
  simp only [List.flatten_cons, List.flatten_nil, List.append_nil, List.cons_append, List.nil_append]
  after_results_simp
  rfl

/-- The cast's call reads its whole operand. -/
theorem block_eq (c : Dev nD) (t : Fin cfg0.N) : iblk m c 0 t = scaled (m ((c : Thread nD τ).loc main_arg1)) := by
  rw [← V_main_v24]
  funext y
  have h0 : ∀ t : Fin cfg0.N, ∀ a, (cfg0.win 0).index t a = 0 := by decide +kernel
  blk_ext [iblk, h0 t]

/-- Its first output is written back whole. -/
theorem emb_codes (t : Fin cfg0.N) (y : S3584x3584.Idx) : ((cfg0.win 1).blk t).view.emb y = y := by
  have h0 : ∀ t : Fin cfg0.N, ∀ a, (cfg0.win 1).index t a = 0 := by decide +kernel
  blk_ext [h0 t]

/-- So is its second. -/
theorem emb_wide (t : Fin cfg0.N) (y : S3584x3584.Idx) : ((cfg0.win 2).blk t).view.emb y = y := by
  have h0 : ∀ t : Fin cfg0.N, ∀ a, (cfg0.win 2).index t a = 0 := by decide +kernel
  blk_ext [h0 t]

/-- The cast's first result. -/
theorem arr_codes (c : Dev nD) : (dats m 0 c).arrAt 1 cfg0.N = codes (m ((c : Thread nD τ).loc main_arg1)) := by
  refine (dats m 0 c).arrAt_eq_of_covers 1 _ (by decide +kernel) fun t hf y => ?_
  rw [after0_1]
  refine Eq.trans ?_ (congrArg _ (emb_codes t y).symm)
  rw [block_eq]
  blk_simp
  frame_out
  unfold k0_pay1 codes
  rw [shapeCast_self]

/-- The cast's second result. -/
theorem arr_wide (c : Dev nD) : (dats m 0 c).arrAt 2 cfg0.N
    = extf .bf16 (codes (m ((c : Thread nD τ).loc main_arg1))) bitsLt_fp8e4m3_bf16 := by
  refine (dats m 0 c).arrAt_eq_of_covers 2 _ (by decide +kernel) fun t hf y => ?_
  rw [after0_2]
  refine Eq.trans ?_ (congrArg _ (emb_wide t y).symm)
  rw [block_eq]
  blk_simp
  frame_out
  unfold k0_pay2 k0_pay1 codes
  rw [shapeCast_self]

/-- What a buffer holds after the last lines, over what the cast's call leaves. -/
abbrev last (c : Dev nD) (b : Ref sig .tc) : Buf (Elt F) ((c : Thread nD τ).loc b) :=
  Pipeline.afterTail₀ cfgs (dats m) 0 (V0 m) [hostOps1] c b

/-- What the last lines find: the call's arrays, and elsewhere what was there before it. -/
abbrev mid (c : Dev nD) : Valuation τ sig (Elt F) :=
  Pipeline.withArrays spec0 c (V0 m c) fun w => (dats m 0 c).arrAt w cfg0.N

/-- After the cast, the codes read as wider floats. -/
theorem mid_main_v25_1 (c : Dev nD) : mid m c (Proc.devRef .tc main_v25_1)
    = extf .bf16 (codes (m ((c : Thread nD τ).loc main_arg1))) bitsLt_fp8e4m3_bf16 :=
  (Pipeline.withArrays_arr spec0 launch0.win.arr_inj c _ _ 2).trans (arr_wide m c)

/-- After the cast, the scales. -/
theorem mid_main_v16 (c : Dev nD) : mid m c (Proc.devRef .tc main_v16) = scale (m ((c : Thread nD τ).loc main_arg1)) :=
  (Pipeline.withArrays_of_ne spec0 c _ _ main_v16 (by decide)).trans (V_main_v16 m c)

/-- After the cast, the input is as it was at the start. -/
theorem mid_main_arg0 (c : Dev nD) : mid m c (Proc.devRef .tc main_arg0) = m ((c : Thread nD τ).loc main_arg0) :=
  (Pipeline.withArrays_of_ne spec0 c _ _ main_arg0 (by decide)).trans (V_main_arg0 m c)

/-- After the cast, the output gradient is as it was at the start. -/
theorem mid_main_arg2 (c : Dev nD) : mid m c (Proc.devRef .tc main_arg2) = m ((c : Thread nD τ).loc main_arg2) :=
  (Pipeline.withArrays_of_ne spec0 c _ _ main_arg2 (by decide)).trans (V_main_arg2 m c)

/-- At the end, the scales. -/
theorem last_main_v16 (c : Dev nD) : last m c main_v16 = scale (m ((c : Thread nD τ).loc main_arg1)) := by
  rw [← mid_main_v16]
  change StableHlo.after (List.flatten [hostOps1]) (mid m c) (Proc.devRef .tc main_v16) = _
  simp only [List.flatten_cons, List.flatten_nil, List.append_nil]
  after_results_simp

/-- At the end, the output: the input times the quantised weights. -/
theorem last_main_v33 (c : Dev nD) : last m c main_v33 = truncf .bf16
    (Host.dotGeneral dot_S4x4096x3584_S3584x3584_S4x4096x3584_2_0_01_1_n_n none (m ((c : Thread nD τ).loc main_arg0))
      (widened (m ((c : Thread nD τ).loc main_arg1)))) bitsLt_bf16_f32 := by
  unfold widened
  rw [← mid_main_v25_1 m c, ← mid_main_v16 m c, ← mid_main_arg0 m c]
  change StableHlo.after (List.flatten [hostOps1]) (mid m c) (Proc.devRef .tc main_v33) = _
  simp only [List.flatten_cons, List.flatten_nil, List.append_nil]
  after_results_simp
  rfl

/-- At the end, the gradient of the input: the output gradient times the quantised weights, transposed. -/
theorem last_main_v35 (c : Dev nD) : last m c main_v35 = truncf .bf16
    (Host.dotGeneral dot_S4x4096x3584_S3584x3584_S4x4096x3584_2_1_01_0_n_n none (m ((c : Thread nD τ).loc main_arg2))
      (widened (m ((c : Thread nD τ).loc main_arg1)))) bitsLt_bf16_f32 := by
  unfold widened
  rw [← mid_main_v25_1 m c, ← mid_main_v16 m c, ← mid_main_arg2 m c]
  change StableHlo.after (List.flatten [hostOps1]) (mid m c) (Proc.devRef .tc main_v35) = _
  simp only [List.flatten_cons, List.flatten_nil, List.append_nil]
  after_results_simp
  rfl

/-- At the end, the gradient of the weights: the input and the output gradient summed over all tokens. -/
theorem last_main_v36 (c : Dev nD) : last m c main_v36
    = Host.dotGeneral dot_S4x4096x3584_S4x4096x3584_S3584x3584_01_01_2_2_n_n none (m ((c : Thread nD τ).loc main_arg0))
      (m ((c : Thread nD τ).loc main_arg2)) := by
  rw [← mid_main_arg0 m c, ← mid_main_arg2 m c]
  change StableHlo.after (List.flatten [hostOps1]) (mid m c) (Proc.devRef .tc main_v36) = _
  simp only [List.flatten_cons, List.flatten_nil, List.append_nil]
  after_results_simp

/-- The reference's run: its five results, its arguments unchanged. -/
theorem run : θ_run defs (onTc (τ := τ) (main (F := F))) ⟨m, fun _ => 0, ρ⟩ (fun r => ∀ c : Dev nD,
      r.2.mem ((c.tc : Thread nD τ).loc main_v33) = truncf .bf16
        (Host.dotGeneral dot_S4x4096x3584_S3584x3584_S4x4096x3584_2_0_01_1_n_n none (m ((c : Thread nD τ).loc main_arg0))
          (widened (m ((c : Thread nD τ).loc main_arg1)))) bitsLt_bf16_f32
      ∧ r.2.mem ((c.tc : Thread nD τ).loc main_v35) = truncf .bf16
        (Host.dotGeneral dot_S4x4096x3584_S3584x3584_S4x4096x3584_2_1_01_0_n_n none (m ((c : Thread nD τ).loc main_arg2))
          (widened (m ((c : Thread nD τ).loc main_arg1)))) bitsLt_bf16_f32
      ∧ r.2.mem ((c.tc : Thread nD τ).loc main_v36)
        = Host.dotGeneral dot_S4x4096x3584_S4x4096x3584_S3584x3584_01_01_2_2_n_n none (m ((c : Thread nD τ).loc main_arg0))
          (m ((c : Thread nD τ).loc main_arg2))
      ∧ r.2.mem ((c.tc : Thread nD τ).loc main_v25_0) = codes (m ((c : Thread nD τ).loc main_arg1))
      ∧ r.2.mem ((c.tc : Thread nD τ).loc main_v16) = scale (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  obtain ⟨ha, hr⟩ := h c
  exact ⟨(hr main_v33 (Pipeline.mem_restRefs_of main_v33 (by decide) (by decide))).trans (last_main_v33 m c), (hr main_v35 (Pipeline.mem_restRefs_of main_v35 (by decide) (by decide))).trans (last_main_v35 m c),
    (hr main_v36 (Pipeline.mem_restRefs_of main_v36 (by decide) (by decide))).trans (last_main_v36 m c), (ha 1).trans (arr_codes m c),
    (hr main_v16 (Pipeline.mem_restRefs_of main_v16 (by decide) (by decide))).trans (last_main_v16 m c), (hr main_arg0 (Pipeline.mem_restRefs_of main_arg0 (by decide) (by decide))).trans (W_main_arg0 m (dats m) c),
    (hr main_arg1 (Pipeline.mem_restRefs_of main_arg1 (by decide) (by decide))).trans (W_main_arg1 m (dats m) c), (hr main_arg2 (Pipeline.mem_restRefs_of main_arg2 (by decide) (by decide))).trans (W_main_arg2 m (dats m) c)⟩

end Cert.ReferenceIdeal.Value
-- ==== Proof.ProductValues.lean ====
/-
  The products on exact numbers: over the tokens in one row after another the kernel's products are the reference's over the
  batch and the position in it.
-/
module

public import proofs.«01_k».proof.Proof.ProductArrays
public import proofs.«01_k».proof.Proof.ReferenceRun

@[expose] public section

set_option maxRecDepth 16384

noncomputable section

open Idealize.ShloMosaic Idealize.ShloMosaic.TcCoe Idealize.ShloMosaic.Tactic Idealize.SL.Sem

namespace Cert.ProductValues

open Cert.KernelIdeal (S4x4096x3584 S16384x3584 S3584x3584)
open Cert.KernelIdeal.Value

open Cert.ReferenceIdeal.Gen

/-- The forward product. -/
theorem y_eq (x : Vec Ideal S4x4096x3584 .bf16) (q : Vec Ideal S3584x3584 .bf16)
    (h1 : S4x4096x3584.ShapeCasts S16384x3584) (h2 : S16384x3584.ShapeCasts S4x4096x3584)
    (h3 : FTy.bits .bf16 < FTy.bits .f32) :
    shapeCast S4x4096x3584 (rowsByColumns (shapeCast S16384x3584 x h1) q) h2
      = truncf .bf16 (Host.dotGeneral (F := Ideal) (φ₁ := .bf16) (φ₂ := .bf16)
          Cert.ReferenceIdeal.dot_S4x4096x3584_S3584x3584_S4x4096x3584_2_0_01_1_n_n none x q)
        h3 := by
  funext i
  pointwise [rowsByColumns]

/-- The product for the gradient of the input. -/
theorem dx_eq (g : Vec Ideal S4x4096x3584 .bf16) (q : Vec Ideal S3584x3584 .bf16)
    (h1 : S4x4096x3584.ShapeCasts S16384x3584) (h2 : S16384x3584.ShapeCasts S4x4096x3584)
    (h3 : FTy.bits .bf16 < FTy.bits .f32) :
    shapeCast S4x4096x3584 (rowsByRows (shapeCast S16384x3584 g h1) q) h2
      = truncf .bf16 (Host.dotGeneral (F := Ideal) (φ₁ := .bf16) (φ₂ := .bf16)
          Cert.ReferenceIdeal.dot_S4x4096x3584_S3584x3584_S4x4096x3584_2_1_01_0_n_n none g q)
        h3 := by
  funext i
  pointwise [rowsByRows]

/-- The gradient of the weights. -/
theorem dw_eq (x g : Vec Ideal S4x4096x3584 .bf16) (h : S4x4096x3584.ShapeCasts S16384x3584) :
    tokenSum (shapeCast S16384x3584 x h) (shapeCast S16384x3584 g h)
      = Host.dotGeneral (F := Ideal) (φ₁ := .bf16) (φ₂ := .bf16)
        Cert.ReferenceIdeal.dot_S4x4096x3584_S4x4096x3584_S3584x3584_01_01_2_2_n_n none x g := by
  refine funext fun i => ?_
  pointwise [tokenSum]
  refine (Fin.sum_mul_add_congr fun s l hl => ?_).symm
  have h1 : s.val < 4 := s.isLt
  have h2 : l.val < 4096 := l.isLt
  congr 1 <;> blk_ext

end Cert.ProductValues
-- ==== Proof.QuantArrays.lean ====
/-
  The arrays of codes, scales and quantised weights after the first kernel call, as functions of `w` alone.

  Every point of the grid writes one strip of each; the strip's place is the same in `w` and in the three arrays. Two
  points of a run (the last two) write the same strip, from the same strip of `w`.
-/
module

public import proofs.«01_k».proof.Proof.Tiles

@[expose] public section

set_option maxRecDepth 16384

noncomputable section

open Idealize.ShloMosaic Idealize.ShloMosaic.TcCoe Idealize.ShloMosaic.Tactic Idealize.SL.Sem
open Idealize.ShloMosaic.Pipeline (Dat Cfg Window)

namespace Cert.KernelIdeal.Value

open Cert.KernelIdeal Cert.KernelIdeal.Gen

variable {F : FTy → Type} [FloatOps F]

/-- The 128 by 128 tile of `w` in which row `p` and column `q` lie. -/
def tileOf (w : Vec F S3584x3584 .f32) (p q : Fin 3584) : Vec F S128x128 .f32 :=
  fun z => w (ix2 ⟨p.val / 128 * 128 + (z 0).val, by have h : (z 0).val < 128 := (z 0).isLt; omega⟩
    ⟨q.val / 128 * 128 + (z 1).val, by have h : (z 1).val < 128 := (z 1).isLt; omega⟩)

/-- A function of a tile laid over the tiles of `w`. -/
def overTiles {e : EltTy} (f : Vec F S128x128 .f32 → Vec F S128x128 e) (w : Vec F S3584x3584 .f32) : Vec F S3584x3584 e :=
  fun i => f (tileOf w (i 0) (i 1)) (ix2 ⟨(i 0).val % 128, Nat.mod_lt _ (by decide)⟩ ⟨(i 1).val % 128, Nat.mod_lt _ (by decide)⟩)

/-- A function from a tile to a row of 128 laid over `w`, one row per row of tiles. -/
def overTilesRow {e : EltTy} (f : Vec F S128x128 .f32 → Vec F S1x1x128 e) (w : Vec F S3584x3584 .f32) :
    Vec F S28x1x3584 e :=
  fun i => f (tileOf w ⟨(i 0).val * 128, by have h : (i 0).val < 28 := (i 0).isLt; omega⟩ (i 2))
    (ix3 0 0 ⟨(i 2).val % 128, Nat.mod_lt _ (by decide)⟩)

/-- A strip of 128 rows and 1792 columns, tile by tile, is the whole, tile by tile, at the strip's place. -/
theorem strip_eq {e : EltTy} (f : Vec F S128x128 .f32 → Vec F S128x128 e) (w : Vec F S3584x3584 .f32)
    (x : Vec F S128x1792 .f32) (r o : ℕ) (hx : ∀ z : S128x1792.Idx, ∀ i : S3584x3584.Idx,
      (i 0).val = r * 128 + (z 0).val → (i 1).val = o * 1792 + (z 1).val → x z = w i)
    (y : S128x1792.Idx) (i : S3584x3584.Idx) (h0 : (i 0).val = r * 128 + (y 0).val)
    (h1 : (i 1).val = o * 1792 + (y 1).val) : tilewise f x y = overTiles f w i := by
  have b0 : (y 0).val < 128 := (y 0).isLt
  have ht : tileAt x (y 1) = tileOf w (i 0) (i 1) := by
    funext z
    have z0 : (z 0).val < 128 := (z 0).isLt
    have z1 : (z 1).val < 128 := (z 1).isLt
    refine hx _ _ ?_ ?_
    · show (i 0).val / 128 * 128 + (z 0).val = r * 128 + (z 0).val; omega
    · show (i 1).val / 128 * 128 + (z 1).val = o * 1792 + ((y 1).val / 128 * 128 + (z 1).val); omega
  unfold tilewise overTiles
  rw [ht]
  congr 1
  funext a
  apply Fin.ext
  match a with
  | ⟨0, _⟩ => show (y 0).val = (i 0).val % 128; omega
  | ⟨1, _⟩ => show (y 1).val % 128 = (i 1).val % 128; omega

/-- The same for the rows of scales. -/
theorem strip_row_eq {e : EltTy} (f : Vec F S128x128 .f32 → Vec F S1x1x128 e) (w : Vec F S3584x3584 .f32)
    (x : Vec F S128x1792 .f32) (r o : ℕ) (hx : ∀ z : S128x1792.Idx, ∀ i : S3584x3584.Idx,
      (i 0).val = r * 128 + (z 0).val → (i 1).val = o * 1792 + (z 1).val → x z = w i)
    (y : S1x1x1792.Idx) (i : S28x1x3584.Idx) (h0 : (i 0).val = r) (h2 : (i 2).val = o * 1792 + (y 2).val) :
    tilewiseRow f x y = overTilesRow f w i := by
  have ht : tileAt x (y 2)
      = tileOf w ⟨(i 0).val * 128, by have h : (i 0).val < 28 := (i 0).isLt; omega⟩ (i 2) := by
    funext z
    have z0 : (z 0).val < 128 := (z 0).isLt
    have z1 : (z 1).val < 128 := (z 1).isLt
    refine hx _ _ ?_ ?_
    · show (i 0).val * 128 / 128 * 128 + (z 0).val = r * 128 + (z 0).val; omega
    · show (i 2).val / 128 * 128 + (z 1).val = o * 1792 + ((y 2).val / 128 * 128 + (z 1).val); omega
  unfold tilewiseRow overTilesRow
  rw [ht]
  congr 1
  funext a
  apply Fin.ext
  match a with
  | ⟨0, _⟩ => rfl
  | ⟨1, _⟩ => rfl
  | ⟨2, _⟩ => show (y 2).val % 128 = (i 2).val % 128; omega

variable (V : (c : Dev nD) → (b : Ref sig .tc) → Buf (Elt F) ((c : Thread nD τ).loc b)) (c : Dev nD)

/-- The strip of `w` a point reads, at its place in `w`. -/
theorem strip_read (t : Fin cfg0.N) (z : S128x1792.Idx) (i : S3584x3584.Idx)
    (h0 : (i 0).val = (cfg0.win 2).index t 0 * 128 + (z 0).val)
    (h1 : (i 1).val = (cfg0.win 2).index t 1 * 1792 + (z 1).val) : iblk0 V c 2 t z = V c main_arg1 i := by
  blk_ext [iblk0, h0, h1]

/-- The codes after the call. -/
theorem arr_codes : (dat0 V c).arrAt 4 cfg0.N = overTiles codesOf (V c main_arg1) := by
  refine (dat0 V c).arrAt_eq_of_covers 4 _ (by decide +kernel) fun t hf y => ?_
  have e : ∀ t : Fin cfg0.N, (cfg0.win 4).index t = (cfg0.win 2).index t := by decide +kernel
  rw [after0_4, codes_strip]
  blk_simp
  refine strip_eq _ _ _ _ _ (strip_read V c t) _ _ ?_ ?_
  · blk_simp [e]
  · blk_simp [e]

/-- The quantised weights after the call. -/
theorem arr_wq : (dat0 V c).arrAt 6 cfg0.N = overTiles wqOf (V c main_arg1) := by
  refine (dat0 V c).arrAt_eq_of_covers 6 _ (by decide +kernel) fun t hf y => ?_
  have e : ∀ t : Fin cfg0.N, (cfg0.win 6).index t = (cfg0.win 2).index t := by decide +kernel
  rw [after0_6, wq_strip]
  blk_simp
  refine strip_eq _ _ _ _ _ (strip_read V c t) _ _ ?_ ?_
  · blk_simp [e]
  · blk_simp [e]

/-- The scales after the call, each repeated along its tile's columns. -/
theorem arr_scale : (dat0 V c).arrAt 5 cfg0.N = overTilesRow scaleOf (V c main_arg1) := by
  refine (dat0 V c).arrAt_eq_of_covers 5 _ (by decide +kernel) fun t hf y => ?_
  have e0 : ∀ t : Fin cfg0.N, (cfg0.win 5).index t 0 = (cfg0.win 2).index t 0 := by decide +kernel
  have e2 : ∀ t : Fin cfg0.N, (cfg0.win 5).index t 2 = (cfg0.win 2).index t 1 := by decide +kernel
  rw [after0_5, scale_strip]
  blk_simp
  refine strip_row_eq _ _ _ _ _ (strip_read V c t) _ _ ?_ ?_
  · blk_simp [e0]
  · blk_simp [e2]

end Cert.KernelIdeal.Value
-- ==== Proof.Exponent.lean ====
/-
  The exponent of a scale, computed in two ways, is the same number.

  The kernel finds the exponent field of t = a/448 by comparing t with the 256 numbers whose bits are an exponent field and
  zeros, and puts its words back together as powers of two. The reference takes the floor of the base-two logarithm of t.
  `exists_field` relates the two for a block maximum `a` in the range of the precondition, `two_pow_field` and
  `two_pow_field_neg` the powers of two that follow.
-/
module

public import Idealize.ShloMosaic.PureOps.Ideal
public import Idealize.ShloMosaic.PureOps.Ideal.Laws
public import Idealize.ShloMosaic.Lib.IdealHost
public import Idealize.ShloMosaic.Lib.SortNet.Extract

@[expose] public section

set_option maxRecDepth 16384

noncomputable section

open Idealize.ShloMosaic

namespace Cert.Exponent

/-- The words whose bits are an exponent field and zeros. -/
abbrev pattern (k : BitVec 32) : BitVec 32 := IntOp.shli .vector k 23#32

/-- The kernel's exponent of a block maximum. -/
def word (a : EReal) : BitVec 32 :=
  if a = 0 then 0#32
  else IntOp.subi (Finset.univ.fold IntOp.maxsi 2147483648#32 fun k : Fin 256 =>
    if a * Ideal.ofBits .f32 0x3B124925#32 < Ideal.ofBits .f32 (pattern (BitVec.ofNat 32 k.val)) then 0#32
    else BitVec.ofNat 32 k.val) 126#32

/-- The reference's exponent of a block maximum. -/
def real (a : EReal) : EReal :=
  if a = 0 then 0
  else Ideal.liftRound Int.floor (Ideal.div (Ideal.log (a * Ideal.ofBits .f32 0x3B124925#32))
    (Ideal.log (Ideal.ofBits .f32 0x40000000#32))) + 1

/-- The precondition on a block maximum: finite, and zero or at least the least normal number times 448. -/
def InRange (a : EReal) : Prop :=
  a ≤ Ideal.ofBits .f32 0x7F7FFFFF#32 ∧ (a = 0 ∨ Ideal.ofBits .f32 0x00800000#32 ≤ a * Ideal.ofBits .f32 0x3B124925#32)

/-- The sign bit and the exponent field of the word with the exponent field `k` and zeros elsewhere. -/
theorem pattern_fields : ∀ k : Fin 256, (pattern (BitVec.ofNat 32 k.val)).extractLsb' (8 + 23) 1 = 0#1
    ∧ ((pattern (BitVec.ofNat 32 k.val)).extractLsb' 23 8).toNat = k.val
    ∧ ((pattern (BitVec.ofNat 32 k.val)).extractLsb' 0 23).toNat = 0 := by decide +kernel

/-- A normal pattern denotes a power of two. -/
theorem ofBits_pattern (k : ℕ) (h1 : 1 ≤ k) (h2 : k ≤ 254) :
    Ideal.ofBits .f32 (pattern (BitVec.ofNat 32 k)) = (((2 : ℝ) ^ ((k : ℤ) - 127) : ℝ) : EReal) := by
  obtain ⟨p1, p2, p3⟩ := pattern_fields ⟨k, by omega⟩
  dsimp only at p1 p2 p3
  simp only [Ideal.ofBits, Ideal.ieee, p1, p2, p3]
  rw [if_neg (by omega), if_neg (by omega), EReal.coe_eq_coe_iff]
  have e : (k : ℤ) - 127 = ((k : ℤ) - (2 ^ (8 - 1) - 1) - (23 : ℕ)) + 23 := by norm_num
  rw [e, zpow_add₀ (by norm_num : (2 : ℝ) ≠ 0)]
  norm_num
  ring

/-- The exponent field 0 with zeros is the number zero. -/
theorem ofBits_pattern_zero : Ideal.ofBits .f32 (pattern (BitVec.ofNat 32 0)) = 0 := by
  obtain ⟨p1, p2, p3⟩ := pattern_fields ⟨0, by omega⟩
  dsimp only at p1 p2 p3
  simp only [Ideal.ofBits, Ideal.ieee, p1, p2, p3]
  norm_num

/-- The exponent field 255 with zeros is infinity. -/
theorem ofBits_pattern_last : Ideal.ofBits .f32 (pattern (BitVec.ofNat 32 255)) = ⊤ := by
  obtain ⟨p1, p2, p3⟩ := pattern_fields ⟨255, by omega⟩
  dsimp only at p1 p2 p3
  simp only [Ideal.ofBits, Ideal.ieee, p1, p2, p3]
  norm_num

/-- The float 2. -/
theorem ofBits_two : Ideal.ofBits .f32 0x40000000#32 = ((2 : ℝ) : EReal) := by
  simp [Ideal.ofBits, Ideal.ieee, -EReal.coe_mul]; norm_num

/-- The least normal float is 2 to the power -126. -/
theorem ofBits_least : Ideal.ofBits .f32 0x00800000#32 = (((2 : ℝ) ^ (-126 : ℤ) : ℝ) : EReal) := by
  simp [Ideal.ofBits, Ideal.ieee, -EReal.coe_mul]; norm_num

/-- The greatest finite float. -/
theorem ofBits_greatest : Ideal.ofBits .f32 0x7F7FFFFF#32 = (((16777215 : ℝ) * 2 ^ (104 : ℤ) : ℝ) : EReal) := by
  simp [Ideal.ofBits, Ideal.ieee, -EReal.coe_mul]

/-- The float nearest to 1/448. -/
theorem ofBits_factor : Ideal.ofBits .f32 0x3B124925#32 = (((9586981 : ℝ) * 2 ^ (-32 : ℤ) : ℝ) : EReal) := by
  simp [Ideal.ofBits, Ideal.ieee, -EReal.coe_mul]

/-- A number below 256, as a signed word, is itself. -/
theorem word_toInt : ∀ k : Fin 256, (BitVec.ofNat 32 k.val).toInt = k.val := by decide +kernel

/-- The greatest of the exponent fields whose pattern does not exceed r is the one of r's binade. -/
theorem fold_field (r : ℝ) (K : Fin 256) (h1 : 1 ≤ K.val) (h2 : K.val ≤ 253)
    (hlo : (2 : ℝ) ^ ((K.val : ℤ) - 127) ≤ r) (hhi : r < (2 : ℝ) ^ ((K.val : ℤ) - 127 + 1)) :
    (Finset.univ.fold IntOp.maxsi 2147483648#32 fun k : Fin 256 =>
      if (r : EReal) < Ideal.ofBits .f32 (pattern (BitVec.ofNat 32 k.val)) then 0#32 else BitVec.ofNat 32 k.val)
      = BitVec.ofNat 32 K.val := by
  have hr : 0 < r := lt_of_lt_of_le (zpow_pos (by norm_num) _) hlo
  set f : Fin 256 → BitVec 32 := fun k =>
    if (r : EReal) < Ideal.ofBits .f32 (pattern (BitVec.ofNat 32 k.val)) then 0#32 else BitVec.ofNat 32 k.val with hf
  have hK : f K = BitVec.ofNat 32 K.val := by
    simp only [hf]
    rw [ofBits_pattern K.val h1 (by omega), if_neg]
    rw [EReal.coe_lt_coe_iff]
    exact not_lt.mpr hlo
  have hle : ∀ k : Fin 256, (f k).toInt ≤ (K.val : ℤ) := by
    intro k
    simp only [hf]
    split_ifs with hk
    · simp
    · rw [word_toInt]
      by_contra hgt
      apply hk
      have hkK : K.val + 1 ≤ k.val := by omega
      rcases Nat.lt_or_ge k.val 255 with h | h
      · rw [ofBits_pattern k.val (by omega) (by omega), EReal.coe_lt_coe_iff]
        refine lt_of_lt_of_le hhi (zpow_le_zpow_right₀ (by norm_num) ?_)
        omega
      · have : k.val = 255 := by have := k.isLt; omega
        rw [this, ofBits_pattern_last]
        exact EReal.coe_lt_top r
  obtain ⟨-, hs2, hs3⟩ := SortNet.fold_maxsi_spec f Finset.univ 2147483648#32
  have hge := hs2 K (Finset.mem_univ _)
  rw [hK, word_toInt] at hge
  refine BitVec.eq_of_toInt_eq ?_
  rw [word_toInt]
  refine le_antisymm ?_ hge
  rcases hs3 with h | ⟨k, -, h⟩
  · exfalso
    rw [h] at hge
    have : (2147483648#32 : BitVec 32).toInt = -2147483648 := by decide
    omega
  · rw [h]; exact hle k

/-- The floor of the base-two logarithm of a number is the exponent of its binade. -/
theorem floor_log (r : ℝ) (hr : 0 < r) (z : ℤ) (l1 : (2 : ℝ) ^ z ≤ r) (l2 : r < (2 : ℝ) ^ (z + 1)) :
    Ideal.liftRound Int.floor (Ideal.div (Ideal.log (r : EReal)) (Ideal.log ((2 : ℝ) : EReal)))
      = (((z : ℤ) : ℝ) : EReal) := by
  have h2 : (0 : ℝ) < Real.log 2 := Real.log_pos (by norm_num)
  have e1 : Ideal.log (r : EReal) = ((Real.log r : ℝ) : EReal) := by
    show (if r ≤ 0 then (⊥ : EReal) else (Real.log r : EReal)) = _
    rw [if_neg (not_le.mpr hr)]
  have e2 : Ideal.log ((2 : ℝ) : EReal) = ((Real.log 2 : ℝ) : EReal) := by
    show (if (2 : ℝ) ≤ 0 then (⊥ : EReal) else (Real.log 2 : EReal)) = _
    rw [if_neg (by norm_num)]
  rw [e1, e2]
  unfold Ideal.div
  rw [if_neg (by exact_mod_cast h2.ne'), ← EReal.coe_inv, ← EReal.coe_mul]
  show (((⌊Real.log r * (Real.log 2)⁻¹⌋ : ℤ) : ℝ) : EReal) = _
  have m1 := Real.log_le_log (zpow_pos (by norm_num) _) l1
  have m2 := Real.log_lt_log hr l2
  rw [Real.log_zpow] at m1 m2
  have e : ⌊Real.log r * (Real.log 2)⁻¹⌋ = z := by
    rw [← div_eq_mul_inv, Int.floor_eq_iff, le_div_iff₀ h2, div_lt_iff₀ h2]
    refine ⟨m1, ?_⟩
    push_cast at m2
    exact m2
  rw [e]

/-- In range, the two exponents are one integer K - 126, with 1 ≤ K ≤ 252. -/
theorem exists_field (a : EReal) (h : InRange a) :
    ∃ K : Fin 256, 1 ≤ K.val ∧ K.val ≤ 252 ∧ word a = BitVec.ofNat 32 K.val - 126#32
      ∧ real a = ((((K.val : ℤ) - 126 : ℤ) : ℝ) : EReal) := by
  obtain ⟨hmax, hmin⟩ := h
  by_cases h0 : a = 0
  · refine ⟨126, by decide, by decide, ?_, ?_⟩
    · unfold word; rw [if_pos h0]; decide
    · unfold real; rw [if_pos h0]; norm_num
  replace hmin := hmin.resolve_left h0
  rw [ofBits_greatest] at hmax
  rw [ofBits_least, ofBits_factor] at hmin
  unfold word real
  rw [if_neg h0, if_neg h0, ofBits_factor, ofBits_two]
  induction a with
  | bot =>
    exfalso
    rw [EReal.bot_mul_coe_of_pos (by norm_num)] at hmin
    exact absurd hmin (not_le.mpr (EReal.bot_lt_coe _))
  | top => exact absurd hmax (not_le.mpr (EReal.coe_lt_top _))
  | coe x =>
    rw [EReal.coe_le_coe_iff] at hmax
    rw [← EReal.coe_mul, EReal.coe_le_coe_iff] at hmin
    rw [← EReal.coe_mul]
    set r : ℝ := x * ((9586981 : ℝ) * 2 ^ (-32 : ℤ)) with hrdef
    have hr : 0 < r := lt_of_lt_of_le (zpow_pos (by norm_num) _) hmin
    have hlt : r < (2 : ℝ) ^ (126 : ℤ) := by
      have : r ≤ ((16777215 : ℝ) * 2 ^ (104 : ℤ)) * ((9586981 : ℝ) * 2 ^ (-32 : ℤ)) :=
        mul_le_mul_of_nonneg_right hmax (by positivity)
      refine lt_of_le_of_lt this ?_
      norm_num
    obtain ⟨z, l1, l2⟩ := exists_mem_Ico_zpow hr (by norm_num : (1 : ℝ) < 2)
    have b1 : -126 < z + 1 := (zpow_lt_zpow_iff_right₀ (by norm_num : (1 : ℝ) < 2)).mp (lt_of_le_of_lt hmin l2)
    have b2 : z < 126 := (zpow_lt_zpow_iff_right₀ (by norm_num : (1 : ℝ) < 2)).mp (lt_of_le_of_lt l1 hlt)
    obtain ⟨n, hn⟩ : ∃ n : ℕ, (n : ℤ) = z + 127 := ⟨(z + 127).toNat, by omega⟩
    refine ⟨⟨n, by omega⟩, by show 1 ≤ n; omega, by show n ≤ 252; omega, ?_, ?_⟩
    · have e : ((n : ℕ) : ℤ) - 127 = z := by omega
      rw [fold_field r ⟨n, by omega⟩ (by show 1 ≤ n; omega) (by show n ≤ 253; omega) (by dsimp only; rw [e]; exact l1)
        (by dsimp only; rw [e]; exact l2)]
      rfl
    · rw [floor_log r hr z l1 l2]
      have e : ((n : ℕ) : ℤ) - 126 = z + 1 := by omega
      dsimp only
      rw [e]
      push_cast
      rfl

/-- The exponent fields of the scale and of its reciprocal, as words, from the exponent field of t. -/
theorem field_words : ∀ K : Fin 256, K.val ≤ 252 →
    IntOp.addi (BitVec.ofNat 32 K.val - 126#32) 127#32 = BitVec.ofNat 32 (K.val + 1)
    ∧ IntOp.subi 127#32 (BitVec.ofNat 32 K.val - 126#32) = BitVec.ofNat 32 (253 - K.val) := by decide +kernel

/-- Two to a whole power, as the reference takes it. -/
theorem pow_two (e : ℤ) : Ideal.pow (Ideal.ofBits .f32 0x40000000#32) (((e : ℤ) : ℝ) : EReal)
    = (((2 : ℝ) ^ e : ℝ) : EReal) := by
  rw [ofBits_two]
  show ((Real.rpow 2 (e : ℝ) : ℝ) : EReal) = _
  congr 1
  exact Real.rpow_intCast 2 e

/-- The scale. -/
theorem two_pow_field (a : EReal) (h : InRange a) :
    Ideal.ofBits .f32 (pattern (IntOp.addi (word a) 127#32)) = Ideal.pow (Ideal.ofBits .f32 0x40000000#32) (real a) := by
  obtain ⟨K, h1, h2, hw, hr⟩ := exists_field a h
  rw [hw, hr, pow_two, (field_words K h2).1, ofBits_pattern _ (by omega) (by omega)]
  congr 2
  push_cast
  omega

/-- The reciprocal of the scale. -/
theorem two_pow_field_neg (a : EReal) (h : InRange a) :
    Ideal.ofBits .f32 (pattern (IntOp.subi 127#32 (word a))) = Ideal.pow (Ideal.ofBits .f32 0x40000000#32) (-real a) := by
  obtain ⟨K, h1, h2, hw, hr⟩ := exists_field a h
  have e : -((((K.val : ℤ) - 126 : ℤ) : ℝ) : EReal) = (((126 - (K.val : ℤ) : ℤ) : ℝ) : EReal) := by
    rw [← EReal.coe_neg]; congr 1; push_cast; ring
  rw [hw, hr, e, pow_two, (field_words K h2).2, ofBits_pattern _ (by omega) (by omega)]
  congr 2
  omega

end Cert.Exponent
-- ==== Proof.QuantValues.lean ====
/-
  The quantiser on exact numbers: what the kernel computes of a tile is what the reference computes of the block.

  Both take the greatest magnitude of the block, from it the same exponent (`Exponent.lean`), and from it the same scale,
  the same codes and the same quantised weights.
-/
module

public import proofs.«01_k».proof.Proof.QuantArrays
public import proofs.«01_k».proof.Proof.ReferenceRun
public import proofs.«01_k».proof.Proof.Exponent

@[expose] public section

set_option maxRecDepth 16384

noncomputable section

open Idealize.ShloMosaic Idealize.ShloMosaic.TcCoe Idealize.ShloMosaic.Tactic Idealize.SL.Sem

namespace Cert.QuantValues

open Cert.KernelIdeal (S128x128 S3584x3584 S28x28)
open Cert.ReferenceIdeal (S28x128x28x128)
open Cert.KernelIdeal.Value

/-- The greatest magnitude of a tile, down the columns first and then along the row of maxima. -/
def tileMax (x : Vec Ideal S128x128 .f32) : EReal :=
  Finset.univ.fold max (Ideal.ofBits .f32 0xFF800000#32) fun q : Fin 128 =>
    Finset.univ.fold max (Ideal.ofBits .f32 0xFF800000#32) fun p : Fin 128 => (FloatOps.absf (x (ix2 p q)) : Ideal .f32)

/-- The kernel's exponent of a tile. -/
theorem word_tile (x : Vec Ideal S128x128 .f32) (j : Cert.KernelIdeal.S1x1.Idx) :
    Cert.KernelIdeal.Gen.k0_pay3 x j = Exponent.word (tileMax x) := by
  pointwise [Cert.KernelIdeal.Gen.k0_pay3]
  rfl

/-- The kernel's scale of a tile. -/
theorem scale_tile (x : Vec Ideal S128x128 .f32) (j : Cert.KernelIdeal.S1x1.Idx) : Cert.KernelIdeal.Gen.k0_pay4 x j
    = Ideal.ofBits .f32 (Exponent.pattern (IntOp.addi (Exponent.word (tileMax x)) 127#32)) := by
  pointwise [Cert.KernelIdeal.Gen.k0_pay4]
  rw [word_tile]

/-- A weight over its scale, held within the format's range. -/
def clipped (v r : EReal) : EReal :=
  min (Ideal.ofBits .f32 0x43E00000#32) (max (Ideal.ofBits .f32 0xC3E00000#32) (v * r))

/-- The kernel's codes of a tile. -/
theorem codes_tile (x : Vec Ideal S128x128 .f32) (y : S128x128.Idx) : codesOf x y
    = clipped (x y) (Ideal.ofBits .f32 (Exponent.pattern (IntOp.subi 127#32 (Exponent.word (tileMax x))))) := by
  pointwise [codesOf, Cert.KernelIdeal.Gen.k0_pay6, Cert.KernelIdeal.Gen.k0_pay5]
  rw [word_tile]
  rfl

/-- The kernel's quantised weights of a tile. -/
theorem wq_tile (x : Vec Ideal S128x128 .f32) (y : S128x128.Idx) : wqOf x y
    = clipped (x y) (Ideal.ofBits .f32 (Exponent.pattern (IntOp.subi 127#32 (Exponent.word (tileMax x)))))
      * Ideal.ofBits .f32 (Exponent.pattern (IntOp.addi (Exponent.word (tileMax x)) 127#32)) := by
  pointwise [wqOf, Cert.KernelIdeal.Gen.k0_pay7, Cert.KernelIdeal.Gen.k0_pay6, Cert.KernelIdeal.Gen.k0_pay5]
  rw [word_tile, scale_tile]
  rfl

/-- The kernel's row of scales of a tile. -/
theorem row_tile (x : Vec Ideal S128x128 .f32) (y : Cert.KernelIdeal.S1x1x128.Idx) : scaleOf x y
    = Ideal.ofBits .f32 (Exponent.pattern (IntOp.addi (Exponent.word (tileMax x)) 127#32)) := by
  pointwise [scaleOf, Cert.KernelIdeal.Gen.k0_pay8]
  rw [scale_tile]

/-- The reference's maximum of a block is the kernel's of the tile. -/
theorem blockMax_eq (w : Vec Ideal S3584x3584 .f32) (p q : Fin 3584) (P Q : Fin 28) (hP : P.val = p.val / 128)
    (hQ : Q.val = q.val / 128) : Cert.ReferenceIdeal.Value.blockMax w (ix2 P Q) = tileMax (tileOf w p q) := by
  have e : ∀ (h : S28x128x28x128.ReducesTo [1, 3] S28x28) (i : S28x128x28x128.Idx), h.drop i = ix2 P Q
      ↔ (i 0).val = P.val ∧ (i 2).val = Q.val := by
    intro h i
    constructor
    · intro hd
      have d0 := congrArg Fin.val (congrFun hd 0)
      have d1 := congrArg Fin.val (congrFun hd 1)
      rw [h.drop_apply_val_of_eq i 0 0 (by decide)] at d0
      rw [h.drop_apply_val_of_eq i 1 2 (by decide)] at d1
      exact ⟨d0, d1⟩
    · rintro ⟨d0, d1⟩
      funext b
      apply Fin.ext
      match b with
      | ⟨0, _⟩ => exact (h.drop_apply_val_of_eq i 0 0 (by decide)).trans d0
      | ⟨1, _⟩ => exact (h.drop_apply_val_of_eq i 1 2 (by decide)).trans d1
  pointwise [Cert.ReferenceIdeal.Value.blockMax, Cert.ReferenceIdeal.Value.blocks]
  unfold tileMax
  refine eq_of_forall_ge_iff fun c => ?_
  rw [Finset.fold_max_le, Finset.fold_max_le]
  refine and_congr_right fun hb => ⟨fun H q' _ => ?_, fun H i hi => ?_⟩
  · rw [Finset.fold_max_le]
    refine ⟨hb, fun p' _ => ?_⟩
    refine le_of_eq_of_le ?_
      (H (ix4 P p' Q q') (by simp only [Finset.mem_filter, Finset.mem_univ, true_and]; exact (e _ _).mpr ⟨rfl, rfl⟩))
    unfold tileOf
    congr 2
    blk_ext [hP, hQ]
  · simp only [Finset.mem_filter, Finset.mem_univ, true_and] at hi
    obtain ⟨h0, h2⟩ := (e _ _).mp hi
    refine le_of_eq_of_le ?_ (((Finset.fold_max_le _).mp (H (i 3) (Finset.mem_univ _))).2 (i 1) (Finset.mem_univ _))
    unfold tileOf
    congr 2
    blk_ext [h0, h2, hP, hQ]

open Cert.ReferenceIdeal (S_) in
/-- A power whose base is one constant everywhere, at an index. -/
theorem pow_apply (c : BitVec 32) (v : Vec Ideal S28x28 .f32) (h : S_.BroadcastsInDim S28x28 ![]) (j : S28x28.Idx) :
    Host.powf (broadcastInDim S28x28 ![] h (constant (F := Ideal) S_ .f32 c)) v j = Ideal.pow (Ideal.ofBits .f32 c) (v j) := by
  pointwise

/-- A negation at an index. -/
theorem neg_apply (v : FVec Ideal S28x28 .f32) (j : S28x28.Idx) :
    (Host.negf v : FVec Ideal S28x28 .f32) j = (-(v j : EReal) : EReal) := by
  pointwise

open Cert.ReferenceIdeal (S_) in
/-- The exponent's lines over a block maximum, at an index. -/
theorem exponent_apply (a : Vec Ideal S28x28 .f32) (c d : BitVec 32) (h : S_.BroadcastsInDim S28x28 ![])
    (j : S28x28.Idx) :
    select (cmpf .oeq a (broadcastInDim S28x28 ![] h (constant (F := Ideal) S_ .f32 0x00000000#32)))
      (broadcastInDim S28x28 ![] h (constant (F := Ideal) S_ .f32 0x00000000#32))
      (addf (Host.floor (Host.divf (Host.log (mulf a (broadcastInDim S28x28 ![] h (constant (F := Ideal) S_ .f32 c))))
          (broadcastInDim S28x28 ![] h (Host.log (constant (F := Ideal) S_ .f32 d)))))
        (broadcastInDim S28x28 ![] h (constant (F := Ideal) S_ .f32 0x3F800000#32))) j
    = if a j = 0 then 0 else Ideal.liftRound Int.floor (Ideal.div (Ideal.log (a j * Ideal.ofBits .f32 c))
      (Ideal.log (Ideal.ofBits .f32 d))) + 1 := by
  pointwise

/-- The reference's exponent of a block. -/
theorem exponent_eq (w : Vec Ideal S3584x3584 .f32) (j : S28x28.Idx) :
    Cert.ReferenceIdeal.Value.exponent w j = Exponent.real (Cert.ReferenceIdeal.Value.blockMax w j) := by
  unfold Cert.ReferenceIdeal.Value.exponent Exponent.real
  exact exponent_apply _ _ _ _ _

/-- The reference's scale of a block. -/
theorem scale_eq (w : Vec Ideal S3584x3584 .f32) (j : S28x28.Idx) : Cert.ReferenceIdeal.Value.scale w j
    = Ideal.pow (Ideal.ofBits .f32 0x40000000#32) (Exponent.real (Cert.ReferenceIdeal.Value.blockMax w j)) := by
  rw [← exponent_eq]
  unfold Cert.ReferenceIdeal.Value.scale
  exact pow_apply _ _ _ _

/-- The reference's reciprocal of a block's scale. -/
theorem inverse_eq (w : Vec Ideal S3584x3584 .f32) (j : S28x28.Idx) : Cert.ReferenceIdeal.Value.inverse w j
    = Ideal.pow (Ideal.ofBits .f32 0x40000000#32) (-Exponent.real (Cert.ReferenceIdeal.Value.blockMax w j)) := by
  rw [← exponent_eq]
  unfold Cert.ReferenceIdeal.Value.inverse
  exact (pow_apply _ _ _ _).trans (congrArg (Ideal.pow (Ideal.ofBits .f32 0x40000000#32)) (neg_apply _ _))

/-- Every block maximum is in the range of the precondition. -/
def InRange (w : Vec Ideal S3584x3584 .f32) : Prop :=
  ∀ j : S28x28.Idx, Exponent.InRange (Cert.ReferenceIdeal.Value.blockMax w j)

variable (w : Vec Ideal S3584x3584 .f32) (hw : InRange w)

/-- The block a row or a column lies in. -/
abbrev blk (p : Fin 3584) : Fin 28 := ⟨p.val / 128, by omega⟩

/-- An entry of `w` in its tile. -/
theorem tileOf_entry (i : S3584x3584.Idx) : tileOf w (i 0) (i 1)
    (ix2 ⟨(i 0).val % 128, Nat.mod_lt _ (by decide)⟩ ⟨(i 1).val % 128, Nat.mod_lt _ (by decide)⟩) = w i := by
  unfold tileOf
  blk_ext

include hw in
/-- The kernel's power of two for the scale is the reference's. -/
theorem pattern_scale (i : S3584x3584.Idx) :
    Ideal.ofBits .f32 (Exponent.pattern (IntOp.addi (Exponent.word (tileMax (tileOf w (i 0) (i 1)))) 127#32))
      = Cert.ReferenceIdeal.Value.scale w (ix2 (blk (i 0)) (blk (i 1))) := by
  rw [scale_eq, ← blockMax_eq w (i 0) (i 1) (blk (i 0)) (blk (i 1)) rfl rfl]
  exact Exponent.two_pow_field _ (hw _)

include hw in
/-- The kernel's power of two for the reciprocal of the scale is the reference's. -/
theorem pattern_inverse (i : S3584x3584.Idx) :
    Ideal.ofBits .f32 (Exponent.pattern (IntOp.subi 127#32 (Exponent.word (tileMax (tileOf w (i 0) (i 1))))))
      = Cert.ReferenceIdeal.Value.inverse w (ix2 (blk (i 0)) (blk (i 1))) := by
  rw [inverse_eq, ← blockMax_eq w (i 0) (i 1) (blk (i 0)) (blk (i 1)) rfl rfl]
  exact Exponent.two_pow_field_neg _ (hw _)

include hw in
/-- The codes agree. -/
theorem codes_eq : overTiles codesOf w = Cert.ReferenceIdeal.Value.codes w := by
  funext i
  unfold overTiles
  rw [codes_tile, tileOf_entry, pattern_inverse w hw i]
  pointwise [Cert.ReferenceIdeal.Value.codes, Cert.ReferenceIdeal.Value.scaled, Cert.ReferenceIdeal.Value.blocks]
  rfl

include hw in
/-- The quantised weights agree. -/
theorem wq_eq : overTiles wqOf w = Cert.ReferenceIdeal.Value.widened w := by
  funext i
  unfold overTiles
  rw [wq_tile, tileOf_entry, pattern_inverse w hw i, pattern_scale w hw i]
  pointwise [Cert.ReferenceIdeal.Value.widened, Cert.ReferenceIdeal.Value.codes, Cert.ReferenceIdeal.Value.scaled,
    Cert.ReferenceIdeal.Value.blocks]
  rfl

include hw in
/-- One scale per block, taken from the first of its tile's columns, agrees. -/
theorem scales_eq (h1 : Cert.KernelIdeal.S28x1x3584.SlicesBy ![0, 0, 0] ![1, 1, 128] Cert.KernelIdeal.S28x1x28)
    (h2 : Cert.KernelIdeal.S28x1x28.ShapeCasts S28x28) :
    shapeCast S28x28 (Host.slice Cert.KernelIdeal.S28x1x28 ![0, 0, 0] ![1, 1, 128] (overTilesRow scaleOf w) h1) h2
      = Cert.ReferenceIdeal.Value.scale w := by
  funext j
  have row : ∀ k : Cert.KernelIdeal.S28x1x3584.Idx, (k 0).val = (j 0).val → (k 2).val = 128 * (j 1).val →
      overTilesRow scaleOf w k = Cert.ReferenceIdeal.Value.scale w j := by
    intro k h0 h2
    unfold overTilesRow
    rw [row_tile, scale_eq, ← blockMax_eq w ⟨(k 0).val * 128, _⟩ (k 2) (j 0) (j 1) (by simp [h0]) (by omega)]
    have e : (ix2 (j 0) (j 1) : S28x28.Idx) = j := by blk_ext
    rw [e]
    exact Exponent.two_pow_field _ (hw _)
  pointwise
  exact row _ rfl rfl

end Cert.QuantValues
-- ==== Proof.InRange.lean ====
/-
  The precondition, read: `in_range` all ones says that every block maximum is in range.
-/
module

public import proofs.«01_k».proof.Proof.QuantValues
public import proofs.«01_k».proof.Defs
public import proofs.«01_k».proof.Proof.Gen.Pre_in_range

@[expose] public section

set_option maxRecDepth 16384

noncomputable section

open Idealize.ShloMosaic Idealize.ShloMosaic.TcCoe Idealize.ShloMosaic.Tactic Idealize.SL.Sem

namespace Cert.QuantValues

open Cert.KernelIdeal (S4x4096x3584 S3584x3584 S28x28)

/-- One bit of a conjunction with a disjunction, read. -/
theorem of_bits (p q r : Bool)
    (h : IntOp.andi (BitVec.ofBool p) (IntOp.ori (BitVec.ofBool q) (BitVec.ofBool r)) = 1#1) :
    p = true ∧ (q = true ∨ r = true) := by
  revert p q r
  decide

open Cert.ReferenceIdeal (S_) in
/-- The precondition's lines over a block maximum, at an index where they read one. -/
theorem inRange_apply (a : FVec Ideal S28x28 .f32) (h : S_.BroadcastsInDim S28x28 ![]) (j : S28x28.Idx)
    (b c d : BitVec 32)
    (hj : andi (cmpf .ole a (broadcastInDim S28x28 ![] h (constant (F := Ideal) S_ .f32 b)))
      (ori (cmpf .oeq a (broadcastInDim S28x28 ![] h (constant (F := Ideal) S_ .f32 0x00000000#32)))
        (cmpf .oge (mulf a (broadcastInDim S28x28 ![] h (constant (F := Ideal) S_ .f32 c)))
          (broadcastInDim S28x28 ![] h (constant (F := Ideal) S_ .f32 d)))) j = 1#1) :
    (a j : EReal) ≤ Ideal.ofBits .f32 b ∧ ((a j : EReal) = 0 ∨ Ideal.ofBits .f32 d ≤ (a j : EReal) * Ideal.ofBits .f32 c) := by
  pointwise at hj
  obtain ⟨h1, h2⟩ := of_bits _ _ _ hj
  exact ⟨of_decide_eq_true h1, h2.imp of_decide_eq_true of_decide_eq_true⟩

/-- Where the precondition reads all ones every block maximum is in range. -/
theorem inRange_of_fn (x g : Vec Ideal S4x4096x3584 .bf16) (w : Vec Ideal S3584x3584 .f32)
    (h : Cert.Pre_in_range.fn (F := Ideal) x w g = fun _ => 1#1) : InRange w := by
  intro j
  exact inRange_apply _ _ j _ _ _ (congrFun h j)

end Cert.QuantValues
-- ==== Proof.lean ====
/-
  The claims. The frames are those of the generated skeletons. For the values, both runs end with arrays named by
  `KernelRun.lean` and `ReferenceRun.lean`, and the two lists of arrays are equal: the products by `ProductArrays.lean` and
  `ProductValues.lean`, the quantiser's by `QuantArrays.lean` and `QuantValues.lean` where the block maxima are in range
  (`InRange.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.KernelRun
public import proofs.«01_k».proof.Proof.ProductValues
public import proofs.«01_k».proof.Proof.InRange
public import Idealize.ShloMosaic.Adequacy
public import Idealize.ShloMosaic.Init

@[expose] public section

noncomputable section

namespace Cert.Proof

open Idealize.ShloMosaic Idealize.SL.Sem

open Cert.KernelIdeal.Value Cert.QuantValues Cert.ProductValues in
/-- On exact numbers the kernel's five results are the reference's wherever the block maxima are in range. -/
theorem values : @Cert.algebraic_KernelIdeal_ReferenceIdeal_pre_in_range Cert.KernelIdeal.Gen.facts
    Cert.ReferenceIdeal.Gen.facts Cert.Pre_in_range.Gen.facts := by
  intro m g m' g' hpre hagree
  refine ⟨_, _, _, _, _, Cert.KernelIdeal.Value.run m g,
    (θ_run _ _ _).mono (fun r h c => ?_) (Cert.ReferenceIdeal.Value.run m' g')⟩
  obtain ⟨h0, h1, h2, h3, h4, h5⟩ := h c
  obtain ⟨a0, a1, a2⟩ := hagree c
  have hw := inRange_of_fn _ _ _ (hpre c)
  rw [a0, a1] at h0
  rw [a1, a2] at h1
  rw [a0, a2] at h2
  rw [a1] at h3 h4
  refine ⟨h0.trans ?_, h1.trans ?_, h2.trans ?_, h3.trans ?_, h4.trans ?_, h5⟩
  · rw [arr_y, V2_main_v0, V2_main_v2_3, arr_wq, V1_main_arg1, wq_eq _ hw]
    exact (y_eq _ _ _ _ _).symm
  · rw [arr_dx, V4_main_v1, V4_main_v2_3, arr_wq, V1_main_arg1, wq_eq _ hw]
    exact (dx_eq _ _ _ _ _).symm
  · rw [arr_dw, V1_main_v0, V1_main_v1]
    exact (dw_eq _ _ _).symm
  · rw [arr_codes, V1_main_arg1]
    exact (codes_eq _ hw).symm
  · rw [arr_scale, V1_main_arg1]
    exact (scales_eq _ hw _ _).symm

/-- Every claim of this certificate. -/
theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, values⟩

end Cert.Proof

end
